-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x128x2048 : Shape := ⟨3, ![3, 128, 2048]⟩
abbrev S128x1 : Shape := ⟨2, ![128, 1]⟩
abbrev S128x1x512 : Shape := ⟨3, ![128, 1, 512]⟩
abbrev S128x2048x128 : Shape := ⟨3, ![128, 2048, 128]⟩
abbrev S128x512 : Shape := ⟨2, ![128, 512]⟩
abbrev S128 : Shape := ⟨1, ![128]⟩
abbrev S64x128 : Shape := ⟨2, ![64, 128]⟩
abbrev S64 : Shape := ⟨1, ![64]⟩
abbrev S64x512 : Shape := ⟨2, ![64, 512]⟩
abbrev S512x128 : Shape := ⟨2, ![512, 128]⟩
abbrev S512 : Shape := ⟨1, ![512]⟩
abbrev S_ : Shape := ⟨0, ![]⟩

class Facts : Prop where
  bcast_S_S3x128x2048 : S_.BroadcastsInDim S3x128x2048 (![] : Fin 0 → Fin S3x128x2048.rank)
  reducesTo_S3x128x2048_S_d0_1_2 : S3x128x2048.ReducesTo [0, 1, 2] S_
  h_S_ : 0 < S_.numel
  bcast_S_S128x1 : S_.BroadcastsInDim S128x1 (![] : Fin 0 → Fin S128x1.rank)
  reducesTo_S128x1_S_d0_1 : S128x1.ReducesTo [0, 1] S_
  bcast_S_S128x1x512 : S_.BroadcastsInDim S128x1x512 (![] : Fin 0 → Fin S128x1x512.rank)
  reducesTo_S128x1x512_S_d0_1_2 : S128x1x512.ReducesTo [0, 1, 2] S_
  bcast_S_S128x2048x128 : S_.BroadcastsInDim S128x2048x128 (![] : Fin 0 → Fin S128x2048x128.rank)
  reducesTo_S128x2048x128_S_d0_1_2 : S128x2048x128.ReducesTo [0, 1, 2] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_

variable [Facts]

def fn_part4 {F : FTy → Type} [FloatOps F] (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v65 : IVec S_ 1) : IVec S_ 1 :=
  let main_v66 : IVec S_ 1 := andi main_v65 main_v31
  let main_v67 : IVec S_ 1 := andi main_v66 main_v35
  let main_v68 : IVec S_ 1 := andi main_v67 main_v39
  let main_v69 : IVec S_ 1 := andi main_v68 main_v43
  let main_v70 : IVec S_ 1 := andi main_v69 main_v47
  let main_v71 : IVec S_ 1 := andi main_v70 main_v51
  let main_v72 : IVec S_ 1 := andi main_v71 main_v55
  let main_v73 : IVec S_ 1 := andi main_v72 main_v59
  main_v73

def fn_part3 {F : FTy → Type} [FloatOps F] (main_arg12 : FVec F S64 .f32) (main_arg13 : FVec F S64x128 .f32) (main_arg14 : FVec F S64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S64 .f32 := Host.absf main_arg12
  let main_cst_22 : FVec F S_ .f32 := constant S_ .f32 0x7F800000#32
  let main_v49 : FVec F S64 .f32 := broadcastInDim S64 ![] bcast_S_S64 main_cst_22
  let main_v50 : IVec S64 1 := cmpf .olt main_v48 main_v49
  let main_c_23 : IVec S_ 1 := constantI S_ 1 1#1
  let main_v51 : IVec S_ 1 := (fun x v => Host.reduce IntOp.andi x v reducesTo_S64_S_d0 h_S_) main_v50 main_c_23
  let main_v52 : FVec F S64x128 .f32 := Host.absf main_arg13
  let main_cst_24 : FVec F S_ .f32 := constant S_ .f32 0x7F800000#32
  let main_v53 : FVec F S64x128 .f32 := broadcastInDim S64x128 ![] bcast_S_S64x128 main_cst_24
  let main_v54 : IVec S64x128 1 := cmpf .olt main_v52 main_v53
  let main_c_25 : IVec S_ 1 := constantI S_ 1 1#1
  let main_v55 : IVec S_ 1 := (fun x v => Host.reduce IntOp.andi x v reducesTo_S64x128_S_d0_1 h_S_) main_v54 main_c_25
  let main_v56 : FVec F S64 .f32 := Host.absf main_arg14
  let main_cst_26 : FVec F S_ .f32 := constant S_ .f32 0x7F800000#32
  let main_v57 : FVec F S64 .f32 := broadcastInDim S64 ![] bcast_S_S64 main_cst_26
  let main_v58 : IVec S64 1 := cmpf .olt main_v56 main_v57
  let main_c_27 : IVec S_ 1 := constantI S_ 1 1#1
  let main_v59 : IVec S_ 1 := (fun x v => Host.reduce IntOp.andi x v reducesTo_S64_S_d0 h_S_) main_v58 main_c_27
  let main_v60 : IVec S_ 1 := andi main_v3 main_v7
  let main_v61 : IVec S_ 1 := andi main_v60 main_v11
  let main_v62 : IVec S_ 1 := andi main_v61 main_v15
  let main_v63 : IVec S_ 1 := andi main_v62 main_v19
  let main_v64 : IVec S_ 1 := andi main_v63 main_v23
  let main_v65 : IVec S_ 1 := andi main_v64 main_v27
  fn_part4 (F := F) main_v31 main_v35 main_v39 main_v43 main_v47 main_v51 main_v55 main_v59 main_v65

def fn_part2 {F : FTy → Type} [FloatOps F] (main_arg8 : FVec F S64 .f32) (main_arg9 : FVec F S64x128 .f32) (main_arg10 : FVec F S64 .f32) (main_arg11 : FVec F S64x512 .f32) (main_arg12 : FVec F S64 .f32) (main_arg13 : FVec F S64x128 .f32) (main_arg14 : FVec F S64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S64 .f32 := Host.absf main_arg8
  let main_cst_14 : FVec F S_ .f32 := constant S_ .f32 0x7F800000#32
  let main_v33 : FVec F S64 .f32 := broadcastInDim S64 ![] bcast_S_S64 main_cst_14
  let main_v34 : IVec S64 1 := cmpf .olt main_v32 main_v33
  let main_c_15 : IVec S_ 1 := constantI S_ 1 1#1
  let main_v35 : IVec S_ 1 := (fun x v => Host.reduce IntOp.andi x v reducesTo_S64_S_d0 h_S_) main_v34 main_c_15
  let main_v36 : FVec F S64x128 .f32 := Host.absf main_arg9
  let main_cst_16 : FVec F S_ .f32 := constant S_ .f32 0x7F800000#32
  let main_v37 : FVec F S64x128 .f32 := broadcastInDim S64x128 ![] bcast_S_S64x128 main_cst_16
  let main_v38 : IVec S64x128 1 := cmpf .olt main_v36 main_v37
  let main_c_17 : IVec S_ 1 := constantI S_ 1 1#1
  let main_v39 : IVec S_ 1 := (fun x v => Host.reduce IntOp.andi x v reducesTo_S64x128_S_d0_1 h_S_) main_v38 main_c_17
  let main_v40 : FVec F S64 .f32 := Host.absf main_arg10
  let main_cst_18 : FVec F S_ .f32 := constant S_ .f32 0x7F800000#32
  let main_v41 : FVec F S64 .f32 := broadcastInDim S64 ![] bcast_S_S64 main_cst_18
  let main_v42 : IVec S64 1 := cmpf .olt main_v40 main_v41
  let main_c_19 : IVec S_ 1 := constantI S_ 1 1#1
  let main_v43 : IVec S_ 1 := (fun x v => Host.reduce IntOp.andi x v reducesTo_S64_S_d0 h_S_) main_v42 main_c_19
  let main_v44 : FVec F S64x512 .f32 := Host.absf main_arg11
  let main_cst_20 : FVec F S_ .f32 := constant S_ .f32 0x7F800000#32
  let main_v45 : FVec F S64x512 .f32 := broadcastInDim S64x512 ![] bcast_S_S64x512 main_cst_20
  let main_v46 : IVec S64x512 1 := cmpf .olt main_v44 main_v45
  let main_c_21 : IVec S_ 1 := constantI S_ 1 1#1
  let main_v47 : IVec S_ 1 := (fun x v => Host.reduce IntOp.andi x v reducesTo_S64x512_S_d0_1 h_S_) main_v46 main_c_21
  fn_part3 (F := F) main_arg12 main_arg13 main_arg14 main_v3 main_v7 main_v11 main_v15 main_v19 main_v23 main_v27 main_v31 main_v35 main_v39 main_v43 main_v47

def fn_part1 {F : FTy → Type} [FloatOps F] (main_arg4 : FVec F S128x2048x128 .f32) (main_arg5 : FVec F S128x512 .f32) (main_arg6 : FVec F S128 .f32) (main_arg7 : FVec F S64x128 .f32) (main_arg8 : FVec F S64 .f32) (main_arg9 : FVec F S64x128 .f32) (main_arg10 : FVec F S64 .f32) (main_arg11 : FVec F S64x512 .f32) (main_arg12 : FVec F S64 .f32) (main_arg13 : FVec F S64x128 .f32) (main_arg14 : FVec F S64 .f32) (main_v3 : IVec S_ 1) (main_v7 : IVec S_ 1) (main_v11 : IVec S_ 1) (main_v15 : IVec S_ 1) : IVec S_ 1 :=
  let main_v16 : FVec F S128x2048x128 .f32 := Host.absf main_arg4
  let main_cst_6 : FVec F S_ .f32 := constant S_ .f32 0x7F800000#32
  let main_v17 : FVec F S128x2048x128 .f32 := broadcastInDim S128x2048x128 ![] bcast_S_S128x2048x128 main_cst_6
  let main_v18 : IVec S128x2048x128 1 := cmpf .olt main_v16 main_v17
  let main_c_7 : IVec S_ 1 := constantI S_ 1 1#1
  let main_v19 : IVec S_ 1 := (fun x v => Host.reduce IntOp.andi x v reducesTo_S128x2048x128_S_d0_1_2 h_S_) main_v18 main_c_7
  let main_v20 : FVec F S128x512 .f32 := Host.absf main_arg5
  let main_cst_8 : FVec F S_ .f32 := constant S_ .f32 0x7F800000#32
  let main_v21 : FVec F S128x512 .f32 := broadcastInDim S128x512 ![] bcast_S_S128x512 main_cst_8
  let main_v22 : IVec S128x512 1 := cmpf .olt main_v20 main_v21
  let main_c_9 : IVec S_ 1 := constantI S_ 1 1#1
  let main_v23 : IVec S_ 1 := (fun x v => Host.reduce IntOp.andi x v reducesTo_S128x512_S_d0_1 h_S_) main_v22 main_c_9
  let main_v24 : FVec F S128 .f32 := Host.absf main_arg6
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S64x128 .f32 := Host.absf main_arg7
  let main_cst_12 : FVec F S_ .f32 := constant S_ .f32 0x7F800000#32
  let main_v29 : FVec F S64x128 .f32 := broadcastInDim S64x128 ![] bcast_S_S64x128 main_cst_12
  let main_v30 : IVec S64x128 1 := cmpf .olt main_v28 main_v29
  let main_c_13 : IVec S_ 1 := constantI S_ 1 1#1
  let main_v31 : IVec S_ 1 := (fun x v => Host.reduce IntOp.andi x v reducesTo_S64x128_S_d0_1 h_S_) main_v30 main_c_13
  fn_part2 (F := F) main_arg8 main_arg9 main_arg10 main_arg11 main_arg12 main_arg13 main_arg14 main_v3 main_v7 main_v11 main_v15 main_v19 main_v23 main_v27 main_v31

def fn {F : FTy → Type} [FloatOps F] (main_arg0 : FVec F S3x128x2048 .f32) (main_arg1 : FVec F S128x1 .f32) (main_arg2 : FVec F S128x1x512 .f32) (main_arg3 : FVec F S128x1x512 .f32) (main_arg4 : FVec F S128x2048x128 .f32) (main_arg5 : FVec F S128x512 .f32) (main_arg6 : FVec F S128 .f32) (main_arg7 : FVec F S64x128 .f32) (main_arg8 : FVec F S64 .f32) (main_arg9 : FVec F S64x128 .f32) (main_arg10 : FVec F S64 .f32) (main_arg11 : FVec F S64x512 .f32) (main_arg12 : FVec F S64 .f32) (main_arg13 : FVec F S64x128 .f32) (main_arg14 : FVec F S64 .f32) (main_arg15 : FVec F S512x128 .f32) (main_arg16 : FVec F S512 .f32) : IVec S_ 1 :=
  let main_v0 : FVec F S3x128x2048 .f32 := Host.absf main_arg0
  let main_cst : FVec F S_ .f32 := constant S_ .f32 0x7F800000#32
  let main_v1 : FVec F S3x128x2048 .f32 := broadcastInDim S3x128x2048 ![] bcast_S_S3x128x2048 main_cst
  let main_v2 : IVec S3x128x2048 1 := cmpf .olt main_v0 main_v1
  let main_c : IVec S_ 1 := constantI S_ 1 1#1
  let main_v3 : IVec S_ 1 := (fun x v => Host.reduce IntOp.andi x v reducesTo_S3x128x2048_S_d0_1_2 h_S_) main_v2 main_c
  let main_v4 : FVec F S128x1 .f32 := Host.absf main_arg1
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : FVec F S128x1x512 .f32 := Host.absf main_arg2
  let main_cst_2 : FVec F S_ .f32 := constant S_ .f32 0x7F800000#32
  let main_v9 : FVec F S128x1x512 .f32 := broadcastInDim S128x1x512 ![] bcast_S_S128x1x512 main_cst_2
  let main_v10 : IVec S128x1x512 1 := cmpf .olt main_v8 main_v9
  let main_c_3 : IVec S_ 1 := constantI S_ 1 1#1
  let main_v11 : IVec S_ 1 := (fun x v => Host.reduce IntOp.andi x v reducesTo_S128x1x512_S_d0_1_2 h_S_) main_v10 main_c_3
  let main_v12 : FVec F S128x1x512 .f32 := Host.absf main_arg3
  let main_cst_4 : FVec F S_ .f32 := constant S_ .f32 0x7F800000#32
  let main_v13 : FVec F S128x1x512 .f32 := broadcastInDim S128x1x512 ![] bcast_S_S128x1x512 main_cst_4
  let main_v14 : IVec S128x1x512 1 := cmpf .olt main_v12 main_v13
  let main_c_5 : IVec S_ 1 := constantI S_ 1 1#1
  let main_v15 : IVec S_ 1 := (fun x v => Host.reduce IntOp.andi x v reducesTo_S128x1x512_S_d0_1_2 h_S_) main_v14 main_c_5
  fn_part1 (F := F) main_arg4 main_arg5 main_arg6 main_arg7 main_arg8 main_arg9 main_arg10 main_arg11 main_arg12 main_arg13 main_arg14 main_v3 main_v7 main_v11 main_v15
-- ==== Kernel.lean ====
abbrev S3x128x2048 : Shape := ⟨3, ![3, 128, 2048]⟩
abbrev S128x1 : Shape := ⟨2, ![128, 1]⟩
abbrev S128x1x512 : Shape := ⟨3, ![128, 1, 512]⟩
abbrev S128x2048x128 : Shape := ⟨3, ![128, 2048, 128]⟩
abbrev S128x512 : Shape := ⟨2, ![128, 512]⟩
abbrev S128 : Shape := ⟨1, ![128]⟩
abbrev S64x128 : Shape := ⟨2, ![64, 128]⟩
abbrev S64 : Shape := ⟨1, ![64]⟩
abbrev S64x512 : Shape := ⟨2, ![64, 512]⟩
abbrev S512x128 : Shape := ⟨2, ![512, 128]⟩
abbrev S512 : Shape := ⟨1, ![512]⟩
abbrev S1x128x2048 : Shape := ⟨3, ![1, 128, 2048]⟩
abbrev S128x2048 : Shape := ⟨2, ![128, 2048]⟩
abbrev S2048x128 : Shape := ⟨2, ![2048, 128]⟩
abbrev S128x16x1 : Shape := ⟨3, ![128, 16, 1]⟩
abbrev S2048x1 : Shape := ⟨2, ![2048, 1]⟩
abbrev S128x128 : Shape := ⟨2, ![128, 128]⟩
abbrev S8x512 : Shape := ⟨2, ![8, 512]⟩
abbrev S8x2048x128 : Shape := ⟨3, ![8, 2048, 128]⟩
abbrev S8x2048 : Shape := ⟨2, ![8, 2048]⟩
abbrev S3x128x128 : Shape := ⟨3, ![3, 128, 128]⟩
abbrev S16384x128 : Shape := ⟨2, ![16384, 128]⟩
abbrev S8x128 : Shape := ⟨2, ![8, 128]⟩
abbrev S1x128 : Shape := ⟨2, ![1, 128]⟩
abbrev S8x64 : Shape := ⟨2, ![8, 64]⟩
abbrev S1x64 : Shape := ⟨2, ![1, 64]⟩
abbrev S8 : Shape := ⟨1, ![8]⟩
abbrev S8x1 : Shape := ⟨2, ![8, 1]⟩
abbrev S16x128 : Shape := ⟨2, ![16, 128]⟩
abbrev S16x16384 : Shape := ⟨2, ![16, 16384]⟩
abbrev S1x2048 : Shape := ⟨2, ![1, 2048]⟩
abbrev S8x1024 : Shape := ⟨2, ![8, 1024]⟩
abbrev S8x256 : Shape := ⟨2, ![8, 256]⟩
abbrev S1x64x128 : Shape := ⟨3, ![1, 64, 128]⟩
abbrev S8x2048x1 : Shape := ⟨3, ![8, 2048, 1]⟩
abbrev S8x1x128 : Shape := ⟨3, ![8, 1, 128]⟩
abbrev S8x16384 : Shape := ⟨2, ![8, 16384]⟩
abbrev S1x512 : Shape := ⟨2, ![1, 512]⟩

abbrev nBuf : Space → Nat
  | .hbm => 35
  | .vmem => 37
  | .smem => 0
  | _ => 0

abbrev bufTy : (tb : Table) → Fin (tcTables nBuf tb) → BufTy
  | .hbm, ⟨0, _⟩ => ⟨S3x128x2048, .f32⟩
  | .hbm, ⟨1, _⟩ => ⟨S128x1, .f32⟩
  | .hbm, ⟨2, _⟩ => ⟨S128x1x512, .f32⟩
  | .hbm, ⟨3, _⟩ => ⟨S128x1x512, .f32⟩
  | .hbm, ⟨4, _⟩ => ⟨S128x2048x128, .f32⟩
  | .hbm, ⟨5, _⟩ => ⟨S128x512, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S64x128, .f32⟩
  | .hbm, ⟨10, _⟩ => ⟨S64, .f32⟩
  | .hbm, ⟨11, _⟩ => ⟨S64x512, .f32⟩
  | .hbm, ⟨12, _⟩ => ⟨S64, .f32⟩
  | .hbm, ⟨13, _⟩ => ⟨S64x128, .f32⟩
  | .hbm, ⟨14, _⟩ => ⟨S64, .f32⟩
  | .hbm, ⟨15, _⟩ => ⟨S512x128, .f32⟩
  | .hbm, ⟨16, _⟩ => ⟨S512, .f32⟩
  | .hbm, ⟨17, _⟩ => ⟨S1x128x2048, .f32⟩
  | .hbm, ⟨18, _⟩ => ⟨S128x2048, .f32⟩
  | .hbm, ⟨19, _⟩ => ⟨S2048x128, .f32⟩
  | .hbm, ⟨20, _⟩ => ⟨S1x128x2048, .f32⟩
  | .hbm, ⟨21, _⟩ => ⟨S128x2048, .f32⟩
  | .hbm, ⟨22, _⟩ => ⟨S2048x128, .f32⟩
  | .hbm, ⟨23, _⟩ => ⟨S1x128x2048, .f32⟩
  | .hbm, ⟨24, _⟩ => ⟨S128x2048, .f32⟩
  | .hbm, ⟨25, _⟩ => ⟨S2048x128, .f32⟩
  | .hbm, ⟨26, _⟩ => ⟨S128x16x1, .f32⟩
  | .hbm, ⟨27, _⟩ => ⟨S2048x1, .f32⟩
  | .hbm, ⟨28, _⟩ => ⟨S128x512, .f32⟩
  | .hbm, ⟨29, _⟩ => ⟨S128x512, .f32⟩
  | .hbm, ⟨30, _⟩ => ⟨S128x2048, .f32⟩
  | .hbm, ⟨31, _⟩ => ⟨S128x2048, .f32⟩
  | .hbm, ⟨32, _⟩ => ⟨S128x2048, .f32⟩
  | .hbm, ⟨33, _⟩ => ⟨S128x512, .f32⟩
  | .hbm, ⟨34, _⟩ => ⟨S128x2048x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x1, .f32⟩
  | .local _ .vmem, ⟨7, _⟩ => ⟨S128x1, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x2048x128, .f32⟩
  | .local _ .vmem, ⟨13, _⟩ => ⟨S8x2048x128, .f32⟩
  | .local _ .vmem, ⟨14, _⟩ => ⟨S128x512, .f32⟩
  | .local _ .vmem, ⟨15, _⟩ => ⟨S128, .f32⟩
  | .local _ .vmem, ⟨16, _⟩ => ⟨S64x128, .f32⟩
  | .local _ .vmem, ⟨17, _⟩ => ⟨S64, .f32⟩
  | .local _ .vmem, ⟨18, _⟩ => ⟨S64x128, .f32⟩
  | .local _ .vmem, ⟨19, _⟩ => ⟨S64, .f32⟩
  | .local _ .vmem, ⟨20, _⟩ => ⟨S64x512, .f32⟩
  | .local _ .vmem, ⟨21, _⟩ => ⟨S64, .f32⟩
  | .local _ .vmem, ⟨22, _⟩ => ⟨S64x128, .f32⟩
  | .local _ .vmem, ⟨23, _⟩ => ⟨S64, .f32⟩
  | .local _ .vmem, ⟨24, _⟩ => ⟨S512x128, .f32⟩
  | .local _ .vmem, ⟨25, _⟩ => ⟨S512, .f32⟩
  | .local _ .vmem, ⟨26, _⟩ => ⟨S8x2048, .f32⟩
  | .local _ .vmem, ⟨27, _⟩ => ⟨S8x2048, .f32⟩
  | .local _ .vmem, ⟨28, _⟩ => ⟨S8x2048, .f32⟩
  | .local _ .vmem, ⟨29, _⟩ => ⟨S8x2048, .f32⟩
  | .local _ .vmem, ⟨30, _⟩ => ⟨S8x2048, .f32⟩
  | .local _ .vmem, ⟨31, _⟩ => ⟨S8x2048, .f32⟩
  | .local _ .vmem, ⟨32, _⟩ => ⟨S8x512, .f32⟩
  | .local _ .vmem, ⟨33, _⟩ => ⟨S8x512, .f32⟩
  | .local _ .vmem, ⟨34, _⟩ => ⟨S8x2048x128, .f32⟩
  | .local _ .vmem, ⟨35, _⟩ => ⟨S8x2048x128, .f32⟩
  | .local _ .vmem, ⟨36, _⟩ => ⟨S3x128x128, .i32⟩
  | _, _ => ⟨S3x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_v0_0 : Ref sig .tc := ⟨.hbm, 30, rfl⟩
abbrev main_v0_1 : Ref sig .tc := ⟨.hbm, 31, rfl⟩
abbrev main_v0_2 : Ref sig .tc := ⟨.hbm, 32, rfl⟩
abbrev main_v0_3 : Ref sig .tc := ⟨.hbm, 33, rfl⟩
abbrev main_v0_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x2048x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S3x128x2048 : Shape := ⟨3, ![3, 128, 2048]⟩
abbrev S128x1 : Shape := ⟨2, ![128, 1]⟩
abbrev S128x1x512 : Shape := ⟨3, ![128, 1, 512]⟩
abbrev S128x2048x128 : Shape := ⟨3, ![128, 2048, 128]⟩
abbrev S128x512 : Shape := ⟨2, ![128, 512]⟩
abbrev S128 : Shape := ⟨1, ![128]⟩
abbrev S64x128 : Shape := ⟨2, ![64, 128]⟩
abbrev S64 : Shape := ⟨1, ![64]⟩
abbrev S64x512 : Shape := ⟨2, ![64, 512]⟩
abbrev S512x128 : Shape := ⟨2, ![512, 128]⟩
abbrev S512 : Shape := ⟨1, ![512]⟩
abbrev S1x128x2048 : Shape := ⟨3, ![1, 128, 2048]⟩
abbrev S128x2048 : Shape := ⟨2, ![128, 2048]⟩
abbrev S128x1x128 : Shape := ⟨3, ![128, 1, 128]⟩
abbrev S1x1x128 : Shape := ⟨3, ![1, 1, 128]⟩
abbrev S128x64 : Shape := ⟨2, ![128, 64]⟩
abbrev S128x1x64 : Shape := ⟨3, ![128, 1, 64]⟩
abbrev S1x1x64 : Shape := ⟨3, ![1, 1, 64]⟩
abbrev S128x2048x64 : Shape := ⟨3, ![128, 2048, 64]⟩
abbrev S128x1x2048 : Shape := ⟨3, ![128, 1, 2048]⟩
abbrev S_ : Shape := ⟨0, ![]⟩
abbrev S128x1x1 : Shape := ⟨3, ![128, 1, 1]⟩
abbrev S128x2048x1 : Shape := ⟨3, ![128, 2048, 1]⟩
abbrev S1 : Shape := ⟨1, ![1]⟩
abbrev S1x1x1 : Shape := ⟨3, ![1, 1, 1]⟩
abbrev S2048x128 : Shape := ⟨2, ![2048, 128]⟩
abbrev S1x128 : Shape := ⟨2, ![1, 128]⟩
abbrev S512x64 : Shape := ⟨2, ![512, 64]⟩
abbrev S128x128 : Shape := ⟨2, ![128, 128]⟩
abbrev S1x512 : Shape := ⟨2, ![1, 512]⟩

abbrev nBuf : Space → Nat
  | .hbm => 192
  | .vmem => 0
  | .smem => 0
  | _ => 0

abbrev hbmTy0_0 (i : Nat) : BufTy := match i % 128 with
  | 0 => ⟨S3x128x2048, .f32⟩
  | 1 => ⟨S128x1, .f32⟩
  | 2 => ⟨S128x1x512, .f32⟩
  | 3 => ⟨S128x1x512, .f32⟩
  | 4 => ⟨S128x2048x128, .f32⟩
  | 5 => ⟨S128x512, .f32⟩
  | 6 => ⟨S128, .f32⟩
  | 7 => ⟨S64x128, .f32⟩
  | 8 => ⟨S64, .f32⟩
  | 9 => ⟨S64x128, .f32⟩
  | 10 => ⟨S64, .f32⟩
  | 11 => ⟨S64x512, .f32⟩
  | 12 => ⟨S64, .f32⟩
  | 13 => ⟨S64x128, .f32⟩
  | 14 => ⟨S64, .f32⟩
  | 15 => ⟨S512x128, .f32⟩
  | 16 => ⟨S512, .f32⟩
  | 17 => ⟨S1x128x2048, .f32⟩
  | 18 => ⟨S128x2048, .f32⟩
  | 19 => ⟨S1x128x2048, .f32⟩
  | 20 => ⟨S128x2048, .f32⟩
  | 21 => ⟨S1x128x2048, .f32⟩
  | 22 => ⟨S128x2048, .f32⟩
  | 23 => ⟨S512x128, .f32⟩
  | 24 => ⟨S128x1x128, .f32⟩
  | 25 => ⟨S1x1x128, .f32⟩
  | 26 => ⟨S128x1x128, .f32⟩
  | 27 => ⟨S128x1x128, .f32⟩
  | 28 => ⟨S128x64, .f32⟩
  | 29 => ⟨S128x1x64, .f32⟩
  | 30 => ⟨S1x1x64, .f32⟩
  | 31 => ⟨S128x1x64, .f32⟩
  | 32 => ⟨S128x1x64, .f32⟩
  | 33 => ⟨S128x64, .f32⟩
  | 34 => ⟨S128x2048x64, .f32⟩
  | 35 => ⟨S1x1x64, .f32⟩
  | 36 => ⟨S128x2048x64, .f32⟩
  | 37 => ⟨S128x2048x64, .f32⟩
  | 38 => ⟨S128x1x2048, .f32⟩
  | 39 => ⟨S_, .f32⟩
  | 40 => ⟨S128x1, .f32⟩
  | 41 => ⟨S_, .f32⟩
  | 42 => ⟨S128x1, .f32⟩
  | 43 => ⟨S128x1, .f32⟩
  | 44 => ⟨S128x1x1, .f32⟩
  | 45 => ⟨S128x1x2048, .f32⟩
  | 46 => ⟨S128x1x2048, .f32⟩
  | 47 => ⟨S128x1x2048, .f32⟩
  | 48 => ⟨S_, .f32⟩
  | 49 => ⟨S128x1, .f32⟩
  | 50 => ⟨S128x1x1, .f32⟩
  | 51 => ⟨S128x1x2048, .f32⟩
  | 52 => ⟨S128x1x2048, .f32⟩
  | 53 => ⟨S_, .f32⟩
  | 54 => ⟨S128x2048, .f32⟩
  | 55 => ⟨S128x2048, .f32⟩
  | 56 => ⟨S_, .f32⟩
  | 57 => ⟨S128x2048, .f32⟩
  | 58 => ⟨S128x2048, .f32⟩
  | 59 => ⟨S128x2048, .f32⟩
  | 60 => ⟨S128x2048, .f32⟩
  | 61 => ⟨S_, .f32⟩
  | 62 => ⟨S128x2048, .f32⟩
  | 63 => ⟨S128x2048, .f32⟩
  | 64 => ⟨S128x2048, .f32⟩
  | 65 => ⟨S128x2048, .f32⟩
  | 66 => ⟨S128x2048, .f32⟩
  | 67 => ⟨S128x2048, .f32⟩
  | 68 => ⟨S128x2048, .i32⟩
  | 69 => ⟨S128x2048, .f32⟩
  | 70 => ⟨S128x2048, .i32⟩
  | 71 => ⟨S_, .i32⟩
  | 72 => ⟨S128x2048, .i32⟩
  | 73 => ⟨S128x2048, .i1⟩
  | 74 => ⟨S_, .i32⟩
  | 75 => ⟨S128x2048, .i32⟩
  | 76 => ⟨S128x2048, .i32⟩
  | 77 => ⟨S128x2048, .i32⟩
  | 78 => ⟨S128x2048x1, .i32⟩
  | 79 => ⟨S1, .i32⟩
  | 80 => ⟨S_, .i32⟩
  | 81 => ⟨S128x2048x1, .i32⟩
  | 82 => ⟨S128x2048x1, .i1⟩
  | 83 => ⟨S1x1x1, .i32⟩
  | 84 => ⟨S128x2048x1, .i32⟩
  | 85 => ⟨S128x2048x1, .i1⟩
  | 86 => ⟨S128x2048x1, .i1⟩
  | 87 => ⟨S_, .i1⟩
  | 88 => ⟨S128x2048, .i1⟩
  | 89 => ⟨S128x2048, .f32⟩
  | 90 => ⟨S_, .f32⟩
  | 91 => ⟨S128x2048, .f32⟩
  | 92 => ⟨S128x2048, .f32⟩
  | 93 => ⟨S_, .f32⟩
  | 94 => ⟨S128, .f32⟩
  | 95 => ⟨S2048x128, .f32⟩
  | 96 => ⟨S_, .f32⟩
  | 97 => ⟨S2048x128, .f32⟩
  | 98 => ⟨S_, .i32⟩
  | 99 => ⟨S2048x128, .f32⟩
  | 100 => ⟨S_, .i32⟩
  | 101 => ⟨S128, .f32⟩
  | 102 => ⟨S2048x128, .f32⟩
  | 103 => ⟨S_, .i32⟩
  | 104 => ⟨S_, .i1⟩
  | 105 => ⟨S_, .i32⟩
  | 106 => ⟨S1x128, .f32⟩
  | 107 => ⟨S128, .f32⟩
  | 108 => ⟨S128, .f32⟩
  | 109 => ⟨S128, .f32⟩
  | 110 => ⟨S1x128, .f32⟩
  | 111 => ⟨S_, .i32⟩
  | 112 => ⟨S2048x128, .f32⟩
  | 113 => ⟨S_, .i32⟩
  | 114 => ⟨S_, .i32⟩
  | 115 => ⟨S_, .f32⟩
  | 116 => ⟨S128x2048, .f32⟩
  | 117 => ⟨S128x2048, .f32⟩
  | 118 => ⟨S128x2048, .f32⟩
  | 119 => ⟨S128x2048, .f32⟩
  | 120 => ⟨S128x2048, .i32⟩
  | 121 => ⟨S128x2048, .i32⟩
  | 122 => ⟨S128x2048, .i32⟩
  | 123 => ⟨S_, .i32⟩
  | 124 => ⟨S128x2048, .i32⟩
  | 125 => ⟨S128x2048, .i1⟩
  | 126 => ⟨S_, .i32⟩
  | 127 => ⟨S128x2048, .i32⟩
  | _ => ⟨S3x128x2048, .f32⟩

abbrev hbmTy0_1 (i : Nat) : BufTy := match i % 128 with
  | 0 => ⟨S128x2048, .i32⟩
  | 1 => ⟨S128x2048, .i32⟩
  | 2 => ⟨S128x2048x1, .i32⟩
  | 3 => ⟨S1, .i32⟩
  | 4 => ⟨S_, .i32⟩
  | 5 => ⟨S128x2048x1, .i32⟩
  | 6 => ⟨S128x2048x1, .i1⟩
  | 7 => ⟨S1x1x1, .i32⟩
  | 8 => ⟨S128x2048x1, .i32⟩
  | 9 => ⟨S128x2048x1, .i1⟩
  | 10 => ⟨S128x2048x1, .i1⟩
  | 11 => ⟨S_, .i1⟩
  | 12 => ⟨S128x2048, .i1⟩
  | 13 => ⟨S128x2048, .f32⟩
  | 14 => ⟨S_, .f32⟩
  | 15 => ⟨S128x2048, .f32⟩
  | 16 => ⟨S128x2048, .f32⟩
  | 17 => ⟨S128x1x2048, .f32⟩
  | 18 => ⟨S128x1x2048, .f32⟩
  | 19 => ⟨S_, .f32⟩
  | 20 => ⟨S128x1x2048, .f32⟩
  | 21 => ⟨S128x1x2048, .f32⟩
  | 22 => ⟨S128x2048x1, .f32⟩
  | 23 => ⟨S128x2048x128, .f32⟩
  | 24 => ⟨S128x2048x128, .f32⟩
  | 25 => ⟨S128x2048x128, .f32⟩
  | 26 => ⟨S128x2048x128, .f32⟩
  | 27 => ⟨S128x2048, .f32⟩
  | 28 => ⟨S512x64, .f32⟩
  | 29 => ⟨S128x1x64, .f32⟩
  | 30 => ⟨S1x1x64, .f32⟩
  | 31 => ⟨S128x1x64, .f32⟩
  | 32 => ⟨S128x1x64, .f32⟩
  | 33 => ⟨S128x64, .f32⟩
  | 34 => ⟨S128x2048x64, .f32⟩
  | 35 => ⟨S1x1x64, .f32⟩
  | 36 => ⟨S128x2048x64, .f32⟩
  | 37 => ⟨S128x2048x64, .f32⟩
  | 38 => ⟨S128x1x2048, .f32⟩
  | 39 => ⟨S_, .f32⟩
  | 40 => ⟨S128x1, .f32⟩
  | 41 => ⟨S_, .f32⟩
  | 42 => ⟨S128x1, .f32⟩
  | 43 => ⟨S128x1, .f32⟩
  | 44 => ⟨S128x1x1, .f32⟩
  | 45 => ⟨S128x1x2048, .f32⟩
  | 46 => ⟨S128x1x2048, .f32⟩
  | 47 => ⟨S128x1x2048, .f32⟩
  | 48 => ⟨S_, .f32⟩
  | 49 => ⟨S128x1, .f32⟩
  | 50 => ⟨S128x1x1, .f32⟩
  | 51 => ⟨S128x1x2048, .f32⟩
  | 52 => ⟨S128x1x2048, .f32⟩
  | 53 => ⟨S128x2048x1, .f32⟩
  | 54 => ⟨S128x2048x128, .f32⟩
  | 55 => ⟨S128x2048x128, .f32⟩
  | 56 => ⟨S_, .f32⟩
  | 57 => ⟨S128x128, .f32⟩
  | 58 => ⟨S128x512, .f32⟩
  | 59 => ⟨S128x512, .f32⟩
  | 60 => ⟨S1x512, .f32⟩
  | 61 => ⟨S128x512, .f32⟩
  | 62 => ⟨S128x512, .f32⟩
  | 63 => ⟨S128x2048, .f32⟩
  | _ => ⟨S3x128x2048, .f32⟩

abbrev hbmTy (i : Nat) : BufTy := match i / 128 with
  | 0 => hbmTy0_0 i
  | 1 => hbmTy0_1 i
  | _ => ⟨S3x128x2048, .f32⟩

abbrev bufTy : (tb : Table) → Fin (tcTables nBuf tb) → BufTy
  | .hbm, ⟨i, _⟩ => hbmTy i
  | _, _ => ⟨S3x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_v0 : Ref sig .tc := ⟨.hbm, 68, rfl⟩
abbrev main_call0_v1_0 : Ref sig .tc := ⟨.hbm, 69, rfl⟩
abbrev main_v45 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_cst : Ref sig .tc := ⟨.hbm, 90, rfl⟩
abbrev main_call1_v14 : Ref sig .tc := ⟨.hbm, 91, rfl⟩
abbrev main_v46 : Ref sig .tc := ⟨.hbm, 92, rfl⟩
abbrev main_cst_5 : Ref sig .tc := ⟨.hbm, 93, rfl⟩
abbrev main_v47 : Ref sig .tc := ⟨.hbm, 94, rfl⟩
abbrev main_v48 : Ref sig .tc := ⟨.hbm, 95, rfl⟩
abbrev main_cst_6 : Ref sig .tc := ⟨.hbm, 96, rfl⟩
abbrev main_v49 : Ref sig .tc := ⟨.hbm, 97, rfl⟩
abbrev main_c : Ref sig .tc := ⟨.hbm, 98, rfl⟩
abbrev main_v50_0 : Ref sig .tc := ⟨.hbm, 99, rfl⟩
abbrev main_v50_1 : Ref sig .tc := ⟨.hbm, 100, rfl⟩
abbrev main_v50_2 : Ref sig .tc := ⟨.hbm, 101, rfl⟩
abbrev main_v50_3 : Ref sig .tc := ⟨.hbm, 102, rfl⟩
abbrev main_while0c_c_16 : Ref sig .tc := ⟨.hbm, 103, rfl⟩
abbrev main_while0c_v99 : Ref sig .tc := ⟨.hbm, 104, rfl⟩
abbrev main_while0b_call2_c : Ref sig .tc := ⟨.hbm, 105, rfl⟩
abbrev main_while0b_call2_v0 : Ref sig .tc := ⟨.hbm, 106, rfl⟩
abbrev main_while0b_v99 : Ref sig .tc := ⟨.hbm, 107, rfl⟩
abbrev main_while0b_v100 : Ref sig .tc := ⟨.hbm, 108, rfl⟩
abbrev main_while0b_v101 : Ref sig .tc := ⟨.hbm, 109, rfl⟩
abbrev main_while0b_call3_v0 : Ref sig .tc := ⟨.hbm, 110, rfl⟩
abbrev main_while0b_call3_c : Ref sig .tc := ⟨.hbm, 111, rfl⟩
abbrev main_while0b_v102 : Ref sig .tc := ⟨.hbm, 112, rfl⟩
abbrev main_while0b_c_16 : Ref sig .tc := ⟨.hbm, 113, rfl⟩
abbrev main_while0b_v103 : Ref sig .tc := ⟨.hbm, 114, rfl⟩
abbrev main_cst_7 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_call4_v0 : Ref sig .tc := ⟨.hbm, 120, rfl⟩
abbrev main_call4_v1_0 : Ref sig .tc := ⟨.hbm, 121, rfl⟩
abbrev main_v55 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_cst : Ref sig .tc := ⟨.hbm, 142, rfl⟩
abbrev main_call5_v14 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_cst_8 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_cst_9 : Ref sig .tc := ⟨.hbm, 167, rfl⟩
abbrev main_v78 : Ref sig .tc := ⟨.hbm, 168, rfl⟩
abbrev main_cst_10 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_cst_11 : Ref sig .tc := ⟨.hbm, 176, rfl⟩
abbrev main_v85 : Ref sig .tc := ⟨.hbm, 177, rfl⟩
abbrev main_v86 : Ref sig .tc := ⟨.hbm, 178, rfl⟩
abbrev main_v87 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_v91 : Ref sig .tc := ⟨.hbm, 183, rfl⟩
abbrev main_cst_12 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩

abbrev nD : Nat := 1
abbrev τ : Topo := Topo.v7x

variable {F : FTy → Type} [FloatOps F]

abbrev main_while0_count : Scf.Loop 32 := ⟨0#32, 2048#32, 1#32⟩
-- ==== Proof.RefRun.lean ====
/- Which buffers the reference program leaves alone, and its frame. -/
module

public import proofs.«01_k».proof.Proof.Gen.ReferenceIdeal.Run
public import proofs.«01_k».proof.Defs
public import Idealize.ShloMosaic.Lib.Quiescent

@[expose] public section

set_option maxRecDepth 1280

noncomputable section

namespace Cert.ReferenceIdeal.Gen

open Idealize.ShloMosaic Idealize.ShloMosaic.TcCoe Idealize.ShloMosaic.StableHlo
open Idealize.SL.Sem Cert.ReferenceIdeal.Value

variable {F : FTy → Type} [FloatOps F]

/-- The reference each operation of `hostOps0_4` writes, in order. -/
abbrev after4_W : List (Ref sig .tc) := [main_cst_7, main_v51, main_v52, main_v53, main_v54]
theorem after4_writes : (hostOps0_4 : List (HloOp τ sig (Elt F))).Forall fun op => op.writes ⊆ (after4_W.map (Proc.devRef (τ := τ) .tc)).toFinset :=
  StableHlo.forall_writes_sub_of_map rfl
/-- The reference each operation of `hostOps0_5` writes, in order. -/
abbrev after5_W : List (Ref sig .tc) := [main_call4_v0, main_call4_v1_0, main_v55]
theorem after5_writes : (hostOps0_5 : List (HloOp τ sig (Elt F))).Forall fun op => op.writes ⊆ (after5_W.map (Proc.devRef (τ := τ) .tc)).toFinset :=
  StableHlo.forall_writes_sub_of_map rfl
/-- The reference each operation of `hostOps0_6` writes, in order. -/
abbrev after6_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v56]
theorem after6_writes : (hostOps0_6 : List (HloOp τ sig (Elt F))).Forall fun op => op.writes ⊆ (after6_W.map (Proc.devRef (τ := τ) .tc)).toFinset :=
  StableHlo.forall_writes_sub_of_map rfl
/-- The reference each operation of `hostOps0_7` writes, in order. -/
abbrev after7_W : List (Ref sig .tc) := [main_v57, main_v58, main_cst_8, main_v59, main_v60, main_v61, main_v62, main_v63, main_v64, main_v65, main_v66, main_v67, main_v68, main_v69, main_v70, main_v71, main_v72, main_v73, main_v74, main_v75, main_v76, main_v77, main_cst_9, main_v78, main_cst_10, main_v79, main_v80, main_v81, main_v82, main_v83, main_v84, main_cst_11, main_v85, main_v86, main_v87, main_v88, main_v89, main_v90, main_v91, main_cst_12, main_v92, main_v93, main_v94, main_v95, main_v96, main_v97, main_v98]
theorem after7_writes : (hostOps0_7 : List (HloOp τ sig (Elt F))).Forall fun op => op.writes ⊆ (after7_W.map (Proc.devRef (τ := τ) .tc)).toFinset :=
  StableHlo.forall_writes_sub_of_map rfl

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-- What the stretches before the loop, the loop and the stretches after it write. -/
abbrev pre_W : List (Ref sig .tc) := hostOps0_W ++ hostOps0_1_W ++ hostOps0_2_W ++ hostOps0_3_W
abbrev loop_W : List (Ref sig .tc) := condOps_W ++ while0Ops0_W ++ while0Ops0_1_W ++ while0Ops0_2_W ++ while0Ops0_3_W
abbrev post_W : List (Ref sig .tc) := after4_W ++ after5_W ++ after6_W ++ after7_W

variable (m : (ℓ : Loc nD τ sig) → Buf (Elt F) ℓ) (ρ : Dev nD → PrngReg)

theorem pre_keep (c : Dev nD) (r : Ref sig .tc) (h : r ∉ pre_W) :
    entryContents preI m c (Proc.devRef .tc r) = m (c.tc.loc r) := by
  simp only [pre_W, List.mem_append, not_or] at h
  simp only [entryContents, afterL_cons, afterL_nil]
  rw [after_of_writes_sub _ _ hostOps0_3_writes h.2, after_of_writes_sub _ _ hostOps0_2_writes h.1.2,
    after_of_writes_sub _ _ hostOps0_1_writes h.1.1.2, after_of_writes_sub _ _ hostOps0_writes h.1.1.1]

theorem loop_keep (c : Dev nD) (r : Ref sig .tc) (h : r ∉ loop_W) :
    ∀ k, atK m k c (Proc.devRef .tc r) = entryContents preI m c (Proc.devRef .tc r)
  | 0 => rfl
  | k + 1 => by
    rw [← loop_keep c r h k]
    simp only [loop_W, List.mem_append, not_or] at h
    rw [show atK m (k + 1) c = afterL bodyI (after condOps (atK m k c)) from rfl]
    simp only [afterL_cons, afterL_nil]
    rw [after_of_writes_sub _ _ while0Ops0_3_writes h.2, after_of_writes_sub _ _ while0Ops0_2_writes h.1.2,
      after_of_writes_sub _ _ while0Ops0_1_writes h.1.1.2, after_of_writes_sub _ _ while0Ops0_writes h.1.1.1.2,
      after_of_writes_sub _ _ condOps_writes h.1.1.1.1]

/-- The contents the stretches after the loop start from. -/
def exitContents (c : Dev nD) : Valuation τ sig (Elt F) := after condOps (atK m 2048 c)

theorem final_eq (c : Dev nD) : finalContents condOps preI bodyI postI 2048 m c
    = after hostOps0_7 (after hostOps0_6 (after hostOps0_5 (after hostOps0_4 (exitContents m c)))) := rfl

theorem exit_keep (c : Dev nD) (r : Ref sig .tc) (h : r ∉ loop_W) :
    exitContents m c (Proc.devRef .tc r) = entryContents preI m c (Proc.devRef .tc r) := by
  rw [← loop_keep m c r h 2048]
  simp only [loop_W, List.mem_append, not_or] at h
  exact after_of_writes_sub _ _ condOps_writes h.1.1.1.1

theorem post_keep (c : Dev nD) (r : Ref sig .tc) (h : r ∉ post_W) :
    finalContents condOps preI bodyI postI 2048 m c (Proc.devRef .tc r) = exitContents m c (Proc.devRef .tc r) := by
  simp only [post_W, List.mem_append, not_or] at h
  rw [final_eq, after_of_writes_sub _ _ after7_writes h.2, after_of_writes_sub _ _ after6_writes h.1.2,
    after_of_writes_sub _ _ after5_writes h.1.1.2, after_of_writes_sub _ _ after4_writes h.1.1.1]

/-- A buffer written nowhere ends as it began. -/
theorem final_keep (c : Dev nD) (r : Ref sig .tc) (h : r ∉ pre_W ++ loop_W ++ post_W) :
    finalContents condOps preI bodyI postI 2048 m c (Proc.devRef .tc r) = m (c.tc.loc r) := by
  simp only [List.mem_append (s := _ ++ _) (t := post_W), List.mem_append (s := pre_W) (t := loop_W), not_or] at h
  rw [post_keep m c r h.2, exit_keep m c r h.1.2, pre_keep m c r h.1.1]

/-- The whole run: every argument and every result is read at the fold. -/
theorem run_reads : θ_run (defs (F := F)) (onTc (τ := τ) (main (F := F))) ⟨m, fun _ => 0, ρ⟩
    (fun r => (∀ c : Dev nD,
      (∀ b : Ref sig .tc, (Proc.devRef .tc b : DevRef τ sig).isScoped = false →
        r.2.mem (c.tc.loc b) = finalContents condOps preI bodyI postI 2048 m c (Proc.devRef .tc b))
      ∧ (∀ b ∈ argRefs, r.2.mem (c.tc.loc b) = m (c.tc.loc b))) ∧ r.2.sem = fun _ => 0) :=
  (θ_run defs _ _).mono (fun r h => ⟨fun c => ⟨h c, fun b hb => by
    rw [h c b (by revert b; decide +kernel), final_keep m c b (by revert b; decide +kernel)]⟩,
    sem_eq_zero_of_no_sems (by decide +kernel) _⟩) (run_fold m ρ)

end Cert.ReferenceIdeal.Gen

end
-- ==== Proof.Sort.lean ====
/- The sort of one slice of the usage array, as functions of whole vectors: a stage exchanges partners, the bits of its
   choices are gathered in words, and the undoing replays them in the opposite order. -/
module

public import proofs.«01_k».proof.Proof.Gen.KernelIdeal.Skeleton

@[expose] public section

noncomputable section

namespace Cert.Sort

open Cert.KernelIdeal Cert.KernelIdeal.Gen Idealize.ShloMosaic

variable {F : FTy → Type} [FloatOps F]

/-- The column of every element. -/
def lane : IVec S64x128 32 := iota .tc S64x128 32 [1] iota_S64x128_d1_w32

/-- The row of every element. -/
def row : IVec S64x128 32 := iota .tc S64x128 32 [0] iota_S64x128_d0_w32

/-- The position of every element in its record. -/
def pos : IVec S64x128 32 := ori (shli (andi row (broadcast S64x128 15#32)) (broadcast S64x128 7#32)) lane

/-- Where bit `n` of `x` is clear. -/
def clear (x : IVec S64x128 32) (n : ℕ) : IVec S64x128 1 :=
  cmpi .eq (andi x (broadcast S64x128 (BitVec.ofNat 32 n))) (broadcast S64x128 0#32)

/-- Every element's partner at distance `2 ^ s`: in the same row for `s < 7`, else in the same column. -/
def swap {α : Type} (s : ℕ) (x : S64x128.Idx → α) : S64x128.Idx → α :=
  bif Nat.blt s 7 then
    select (clear lane (2 ^ s)) (dynamicRotate 1 (BitVec.ofNat 32 (128 - 2 ^ s)) none x rotates_S64x128_d1)
      (dynamicRotate 1 (BitVec.ofNat 32 (2 ^ s)) none x rotates_S64x128_d1)
  else
    select (clear row (2 ^ (s - 7))) (dynamicRotate 0 (BitVec.ofNat 32 (64 - 2 ^ (s - 7))) none x rotates_S64x128_d0)
      (dynamicRotate 0 (BitVec.ofNat 32 (2 ^ (s - 7))) none x rotates_S64x128_d0)

/-- The state of the sort: keys, positions and the word being gathered. -/
structure St (F : FTy → Type) where
  K : FVec F S64x128 .f32
  I : IVec S64x128 32
  W : IVec S64x128 32

/-- Which elements keep their entry at level `l`, distance `2 ^ s`. -/
def take (l s : ℕ) (K : FVec F S64x128 .f32) (I : IVec S64x128 32) : IVec S64x128 1 :=
  xori (xori (ori (cmpf .olt K (swap s K)) (andi (cmpf .oeq K (swap s K)) (cmpi .slt I (swap s I)))) (clear pos (2 ^ s)))
    (clear pos (2 ^ (l + 1)))

/-- One stage; its choices go to bit `b` of the word. -/
def step (l s b : ℕ) (st : St F) : St F where
  K := select (take l s st.K st.I) st.K (swap s st.K)
  I := select (take l s st.K st.I) st.I (swap s st.I)
  W := ori st.W (select (take l s st.K st.I) (broadcast S64x128 (BitVec.ofNat 32 (2 ^ b))) (broadcast S64x128 0#32))

/-- The stages `L`, the first one's choices at bit `b`. -/
def run : ℕ → List (ℕ × ℕ) → St F → St F
  | _, [], st => st
  | b, (l, s) :: L, st => run (b + 1) L (step l s b st)

/-- The same state with an empty word. -/
def fresh (st : St F) : St F := ⟨st.K, st.I, broadcast S64x128 0#32⟩

/-- The stages of the three words: level and distance. -/
def word0 : List (ℕ × ℕ) :=
  [(0, 0), (1, 1), (1, 0), (2, 2), (2, 1), (2, 0), (3, 3), (3, 2), (3, 1), (3, 0), (4, 4), (4, 3), (4, 2), (4, 1), (4, 0),
   (5, 5), (5, 4), (5, 3), (5, 2), (5, 1), (5, 0), (6, 6), (6, 5), (6, 4), (6, 3), (6, 2), (6, 1), (6, 0), (7, 7), (7, 6), (7, 5)]
def word1 : List (ℕ × ℕ) :=
  [(7, 4), (7, 3), (7, 2), (7, 1), (7, 0), (8, 8), (8, 7), (8, 6), (8, 5), (8, 4), (8, 3), (8, 2), (8, 1), (8, 0),
   (9, 9), (9, 8), (9, 7), (9, 6), (9, 5), (9, 4), (9, 3), (9, 2), (9, 1), (9, 0), (10, 10), (10, 9), (10, 8), (10, 7), (10, 6),
   (10, 5), (10, 4)]
def word2 : List (ℕ × ℕ) := [(10, 3), (10, 2), (10, 1), (10, 0)]

/-- The state after each word. -/
def st0 (x : FVec F S64x128 .f32) : St F := run 0 word0 ⟨x, pos, broadcast S64x128 0#32⟩
def st1 (x : FVec F S64x128 .f32) : St F := run 0 word1 (fresh (st0 x))
def st2 (x : FVec F S64x128 .f32) : St F := run 0 word2 (fresh (st1 x))

/-- One stage undone, from the bit of the word. -/
def undo {α : Type} (s b : ℕ) (w : IVec S64x128 32) (y : S64x128.Idx → α) : S64x128.Idx → α :=
  select (cmpi .ne (andi w (broadcast S64x128 (BitVec.ofNat 32 (2 ^ b)))) (broadcast S64x128 0#32)) y (swap s y)

/-- The stages `L` undone, the last one first. -/
def back {α : Type} (w : IVec S64x128 32) : ℕ → List (ℕ × ℕ) → (S64x128.Idx → α) → S64x128.Idx → α
  | _, [], y => y
  | b, (_, s) :: L, y => undo s b w (back w (b + 1) L y)

/-- One step of the running product: times the value `2 ^ k` positions before, where there is one. -/
def prodStep (k : ℕ) (x : FVec F S64x128 .f32) : FVec F S64x128 .f32 :=
  mulf x (select (cmpi .sge pos (broadcast S64x128 (BitVec.ofNat 32 (2 ^ k))))
    (bif Nat.blt k 7 then
      select (cmpi .sge lane (broadcast S64x128 (BitVec.ofNat 32 (2 ^ k))))
        (dynamicRotate 1 (BitVec.ofNat 32 (2 ^ k)) none x rotates_S64x128_d1)
        (dynamicRotate 0 1#32 none (dynamicRotate 1 (BitVec.ofNat 32 (2 ^ k)) none x rotates_S64x128_d1) rotates_S64x128_d0)
     else dynamicRotate 0 (BitVec.ofNat 32 (2 ^ (k - 7))) none x rotates_S64x128_d0)
    (broadcast S64x128 (Scalar.ofBits .f32 0x3F800000#32)))

/-- The running products of `n` steps. -/
def prods (x : FVec F S64x128 .f32) : ℕ → FVec F S64x128 .f32
  | 0 => x
  | n + 1 => prodStep n (prods x n)

/-- What the sorted order is given before it is undone. -/
def sortedAlloc (K : FVec F S64x128 .f32) : FVec F S64x128 .f32 :=
  mulf (subf (broadcast S64x128 (Scalar.ofBits .f32 0x3F800000#32)) K) (prods K 11)

/-- The whole slice, from the three words as they are read back. -/
def sliceOf (x : FVec F S64x128 .f32) (w0 w1 w2 : IVec S64x128 32) : FVec F S64x128 .f32 :=
  back w0 0 word0 (back w1 0 word1 (back w2 0 word2 (sortedAlloc (st2 x).K)))

/-- The whole slice. -/
def slice (x : FVec F S64x128 .f32) : FVec F S64x128 .f32 := sliceOf x (st0 x).W (st1 x).W (st2 x).W

end Cert.Sort

end
-- ==== Proof.SortMath.lean ====
/- The bitonic sort of 2048 keys with their positions as tie breaks, as a permutation: one stage keeps or exchanges each
   position with its partner, the stages composed give the permutation that sorts, and the same choices taken in the
   opposite order undo it. -/
module

public import Idealize.ShloMosaic.Lib.SortNet.Sorts
public import Mathlib.Data.Prod.Lex
public import Mathlib.Algebra.BigOperators.Group.Finset.Basic

@[expose] public section

namespace Cert.SortMath

open Idealize.ShloMosaic.SortNet

variable {α : Type*} [LinearOrder α]

/-- The direction of a stage of level `l`: the greater entry goes to the earlier position where bit `l + 1` is set. -/
def winner (l : ℕ) (i : Fin (2 ^ 11)) : Bool := (decide (i.val &&& 2 ^ (l + 1) = 0)) == false

/-- Whether position `p` keeps its entry at the stage of level `l` and distance `2 ^ s`. -/
def keeps (l s : ℕ) (e : Fin (2 ^ 11) → α) (p : Fin (2 ^ 11)) : Bool :=
  ((decide (e p < e (partner 11 s p))) ^^ decide (p.val &&& 2 ^ s = 0)) ^^ decide (p.val &&& 2 ^ (l + 1) = 0)

theorem partner_level {l s : ℕ} (hs : s < 11) (hl : s ≤ l) (p : Fin (2 ^ 11)) :
    decide ((partner 11 s p).val &&& 2 ^ (l + 1) = 0) = decide (p.val &&& 2 ^ (l + 1) = 0) := by
  rw [partner_val hs]
  congr 1
  rw [Nat.and_xor_distrib_right]
  have : 2 ^ s &&& 2 ^ (l + 1) = 0 := by
    rw [and_two_pow_eq_zero_iff_testBit, Nat.testBit_two_pow]
    simp; omega
  rw [this, Nat.xor_zero]

theorem partner_clear {s : ℕ} (hs : s < 11) (p : Fin (2 ^ 11)) :
    decide ((partner 11 s p).val &&& 2 ^ s = 0) = !decide (p.val &&& 2 ^ s = 0) := by
  by_cases h : p.val &&& 2 ^ s = 0
  · rw [partner_and hs p h]
    simp [h]
  · rw [partner_and_of_set hs p h]
    simp [h]

/-- The two positions of a pair make the same choice. -/
theorem keeps_partner {l s : ℕ} (hs : s < 11) (hl : s ≤ l) (e : Fin (2 ^ 11) → α) (he : Function.Injective e)
    (p : Fin (2 ^ 11)) : keeps l s e (partner 11 s p) = keeps l s e p := by
  unfold keeps
  rw [partner_partner hs, partner_level hs hl, partner_clear hs]
  have hne : partner 11 s p ≠ p := fun h => by
    have := partner_clear hs p
    rw [h] at this
    cases hd : decide (p.val &&& 2 ^ s = 0) <;> rw [hd] at this <;> exact absurd this (by decide)
  have h2 : decide (e (partner 11 s p) < e p) = !decide (e p < e (partner 11 s p)) := by
    rcases lt_trichotomy (e p) (e (partner 11 s p)) with h | h | h
    · simp [h, not_lt.mpr h.le]
    · exact absurd (he h).symm hne
    · simp [h, not_lt.mpr h.le]
  rw [h2]
  cases decide (e p < e (partner 11 s p)) <;> cases decide (p.val &&& 2 ^ s = 0) <;>
    cases decide (p.val &&& 2 ^ (l + 1) = 0) <;> rfl

/-- One stage of the network is the choice `keeps` at every position. -/
theorem apply_stage_keeps {l s : ℕ} (hs : s < 11) (hl : s ≤ l) (e : Fin (2 ^ 11) → α)
    (p : Fin (2 ^ 11)) :
    Network.apply (stage 11 s (winner l)) e p = if keeps l s e p then e p else e (partner 11 s p) := by
  by_cases h : p.val &&& 2 ^ s = 0
  · rw [(apply_stage hs (winner l) e p h).1]
    unfold winner keeps
    rw [decide_eq_true h]
    by_cases ha : p.val &&& 2 ^ (l + 1) = 0
    · rw [decide_eq_true ha]
      by_cases hlt : e p < e (partner 11 s p)
      · simp [hlt, hlt.le]
      · simp [hlt, not_lt.mp hlt]
    · rw [decide_eq_false ha]
      by_cases hlt : e p < e (partner 11 s p)
      · simp [hlt, hlt.le]
      · simp [hlt, not_lt.mp hlt]
  · have hq := partner_and_of_set hs p h
    have h2 := (apply_stage hs (winner l) e (partner 11 s p) hq).2
    rw [partner_partner hs] at h2
    rw [h2]
    unfold winner keeps
    rw [decide_eq_false h, partner_level hs hl]
    by_cases ha : p.val &&& 2 ^ (l + 1) = 0
    · rw [decide_eq_true ha]
      by_cases hlt : e p < e (partner 11 s p)
      · simp [hlt, hlt.le]
      · simp [hlt, not_lt.mp hlt]
    · rw [decide_eq_false ha]
      by_cases hlt : e p < e (partner 11 s p)
      · simp [hlt, hlt.le]
      · simp [hlt, not_lt.mp hlt]

/-- A stage's rearrangement of positions. -/
def move (l s : ℕ) (e : Fin (2 ^ 11) → α) (p : Fin (2 ^ 11)) : Fin (2 ^ 11) :=
  if keeps l s e p then p else partner 11 s p

theorem move_move {l s : ℕ} (hs : s < 11) (hl : s ≤ l) (e : Fin (2 ^ 11) → α) (he : Function.Injective e)
    (p : Fin (2 ^ 11)) : move l s e (move l s e p) = p := by
  unfold move
  by_cases h : keeps l s e p
  · simp [h]
  · simp [h, keeps_partner hs hl e he p, partner_partner hs]

/-- The positions after the stages `L`, from the arrangement `e`: position `p` holds what stood at `moved L e p`. -/
def moved : List (ℕ × ℕ) → (Fin (2 ^ 11) → α) → Fin (2 ^ 11) → Fin (2 ^ 11)
  | [], _ => id
  | (l, s) :: L, e => move l s e ∘ moved L (e ∘ move l s e)

/-- A stage list in which each distance is at most its level. -/
def Good (L : List (ℕ × ℕ)) : Prop := ∀ q ∈ L, q.2 < 11 ∧ q.2 ≤ q.1

theorem move_injective {l s : ℕ} (hs : s < 11) (hl : s ≤ l) (e : Fin (2 ^ 11) → α) (he : Function.Injective e) :
    Function.Injective (move l s e) :=
  Function.LeftInverse.injective (move_move hs hl e he)

theorem apply_stage_move {l s : ℕ} (hs : s < 11) (hl : s ≤ l) (e : Fin (2 ^ 11) → α) :
    Network.apply (stage 11 s (winner l)) e = e ∘ move l s e := by
  funext p
  rw [apply_stage_keeps hs hl]
  show _ = e (move l s e p)
  unfold move
  split <;> rfl

/-- The network of the stages `L` rearranges by `moved`. -/
theorem apply_moved (L : List (ℕ × ℕ)) (hL : Good L) (e : Fin (2 ^ 11) → α) :
    Network.apply (L.flatMap fun q => stage 11 q.2 (winner q.1)) e = e ∘ moved L e := by
  induction L generalizing e with
  | nil => rfl
  | cons q L ih =>
    obtain ⟨l, s⟩ := q
    have hq := hL (l, s) List.mem_cons_self
    rw [List.flatMap_cons, Network.apply_append, apply_stage_move hq.1 hq.2,
      ih (fun q h => hL q (List.mem_cons_of_mem _ h))]
    rfl

/-- The choices undone: the stages in the opposite order. -/
def undone : List (ℕ × ℕ) → (Fin (2 ^ 11) → α) → Fin (2 ^ 11) → Fin (2 ^ 11)
  | [], _ => id
  | (l, s) :: L, e => undone L (e ∘ move l s e) ∘ move l s e

theorem moved_undone (L : List (ℕ × ℕ)) (hL : Good L) (e : Fin (2 ^ 11) → α) (he : Function.Injective e)
    (p : Fin (2 ^ 11)) : moved L e (undone L e p) = p := by
  induction L generalizing e p with
  | nil => rfl
  | cons q L ih =>
    obtain ⟨l, s⟩ := q
    have hq := hL (l, s) List.mem_cons_self
    show move l s e (moved L (e ∘ move l s e) (undone L (e ∘ move l s e) (move l s e p))) = p
    rw [ih (fun q h => hL q (List.mem_cons_of_mem _ h)) _ (he.comp (move_injective hq.1 hq.2 e he)),
      move_move hq.1 hq.2 e he]

theorem undone_moved (L : List (ℕ × ℕ)) (hL : Good L) (e : Fin (2 ^ 11) → α) (he : Function.Injective e)
    (p : Fin (2 ^ 11)) : undone L e (moved L e p) = p := by
  have hi : Function.Injective (undone L e) := Function.LeftInverse.injective (moved_undone L hL e he)
  have hs : Function.Surjective (undone L e) := Finite.surjective_of_injective hi
  obtain ⟨q, rfl⟩ := hs p
  rw [moved_undone L hL e he]

/-- The stages of the whole sort: level `l`, distances `2 ^ l` down to 1. -/
def stages : List (ℕ × ℕ) := (List.range 11).flatMap fun l => (List.range (l + 1)).reverse.map fun s => (l, s)

theorem good_stages : Good stages := by unfold Good; decide

theorem stages_net : (stages.flatMap fun q => stage 11 q.2 (winner q.1)) = sortNet 11 false := by
  unfold stages sortNet winner
  rw [List.flatMap_assoc]
  simp only [List.flatMap_map]

/-- After the whole sort the entries ascend. -/
theorem monotone_moved (e : Fin (2 ^ 11) → α) : Monotone (e ∘ moved stages e) := by
  rw [← apply_moved stages good_stages, stages_net]
  exact sortNet_apply_monotone 11 e

/-- The product of the first entries of the sorted order, up to the place where entry `i` ended, is the product of the
    entries not above `i`'s. -/
theorem prod_sorted {M : Type*} [CommMonoid M] (e : Fin (2 ^ 11) → α) (he : Function.Injective e) (f : Fin (2 ^ 11) → M)
    (i : Fin (2 ^ 11)) :
    ∏ q ∈ Finset.univ.filter (· ≤ undone stages e i), f (moved stages e q)
      = ∏ j ∈ Finset.univ.filter (fun j => e j ≤ e i), f j := by
  have hinj : Function.Injective (moved stages e) :=
    Function.LeftInverse.injective (undone_moved stages good_stages e he)
  have hm : StrictMono (e ∘ moved stages e) := (monotone_moved e).strictMono_of_injective (he.comp hinj)
  refine Finset.prod_bij (fun q _ => moved stages e q) ?_ (fun _ _ _ _ h => hinj h) ?_ (fun _ _ => rfl)
  · intro q hq
    rw [Finset.mem_filter] at hq ⊢
    refine ⟨Finset.mem_univ _, ?_⟩
    have := (monotone_moved e) hq.2
    simpa [moved_undone stages good_stages e he] using this
  · intro j hj
    rw [Finset.mem_filter] at hj
    refine ⟨undone stages e j, ?_, moved_undone stages good_stages e he j⟩
    rw [Finset.mem_filter]
    refine ⟨Finset.mem_univ _, ?_⟩
    rw [← hm.le_iff_le]
    simpa [moved_undone stages good_stages e he] using hj.2

end Cert.SortMath
-- ==== Proof.SortRead.lean ====
/- The sort of one slice, read entry by entry over the extended reals: at every position the slice gives one minus the
   value there, times the product of the values that come no later in the order by value and position. -/
module

public import proofs.«01_k».proof.Proof.Sort
public import proofs.«01_k».proof.Proof.SortMath
public import Idealize.ShloMosaic.Lib.Pointwise.Index
public import Idealize.ShloMosaic.Lib.IdealHost

@[expose] public section

set_option maxRecDepth 20000

noncomputable section

namespace Cert.Sort

open Cert.KernelIdeal Cert.KernelIdeal.Gen Idealize.ShloMosaic Idealize.ShloMosaic.SortNet Cert.SortMath

/-- Position `p` of record `g`. -/
def at' (g : Fin 4) (p : Fin (2 ^ 11)) : S64x128.Idx :=
  ix2 (n0 := 64) (n1 := 128) ⟨16 * g.val + p.val / 128, by have := g.isLt; have := p.isLt; omega⟩ ⟨p.val % 128, Nat.mod_lt _ (by decide)⟩

theorem at'_ext {g : Fin 4} {p : Fin (2 ^ 11)} {j : S64x128.Idx} (h0 : (j 0).val = 16 * g.val + p.val / 128)
    (h1 : (j 1).val = p.val % 128) : j = at' g p := by
  rw [← ix2_eta j]
  exact (ix2_inj _ _ _ _).mpr ⟨Fin.ext h0, Fin.ext h1⟩

theorem rotate_lane {α : Type} (n : BitVec 32) (x : S64x128.Idx → α) (j : S64x128.Idx) :
    dynamicRotate 1 n none x rotates_S64x128_d1 j
      = x (ix2 (n0 := 64) (n1 := 128) (j 0) ⟨((j 1).val + 128 - n.toNat % 128) % 128, Nat.mod_lt _ (by decide)⟩) := by
  refine congrArg x (funext fun b => ?_)
  match b with
  | ⟨0, _⟩ => rfl
  | ⟨1, _⟩ => rfl

theorem rotate_row {α : Type} (n : BitVec 32) (x : S64x128.Idx → α) (j : S64x128.Idx) :
    dynamicRotate 0 n none x rotates_S64x128_d0 j
      = x (ix2 (n0 := 64) (n1 := 128) ⟨((j 0).val + 64 - n.toNat % 64) % 64, Nat.mod_lt _ (by decide)⟩ (j 1)) := by
  refine congrArg x (funext fun b => ?_)
  match b with
  | ⟨0, _⟩ => rfl
  | ⟨1, _⟩ => rfl

theorem lane_at (j : S64x128.Idx) : lane j = BitVec.ofNat 32 (j 1).val := by
  show BitVec.ofNat 32 (0 * 128 + (j 1).val) = _
  rw [Nat.zero_mul, Nat.zero_add]

theorem row_at (j : S64x128.Idx) : row j = BitVec.ofNat 32 (j 0).val := by
  show BitVec.ofNat 32 (0 * 64 + (j 0).val) = _
  rw [Nat.zero_mul, Nat.zero_add]

theorem pos_word : ∀ r < 64, ∀ l < 128, IntOp.ori (IntOp.shli .vector (IntOp.andi (BitVec.ofNat 32 r) 15#32) 7#32) (BitVec.ofNat 32 l)
    = BitVec.ofNat 32 (r % 16 * 128 + l) := by decide +kernel

theorem pos_at (g : Fin 4) (p : Fin (2 ^ 11)) : pos (at' g p) = BitVec.ofNat 32 p.val := by
  have hp := p.isLt
  have hg := g.isLt
  show IntOp.ori (IntOp.shli .vector (IntOp.andi (row (at' g p)) 15#32) 7#32) (lane (at' g p)) = _
  rw [row_at, lane_at]
  refine (pos_word (16 * g.val + p.val / 128) (by omega) (p.val % 128) (Nat.mod_lt _ (by decide))).trans ?_
  congr 1
  omega

theorem ofBool_eq_one (b : Bool) : (BitVec.ofBool b = 1#1) = (b = true) := by cases b <;> decide

theorem scalar_select {α : Type} (t : Bool) (a b : α) : Scalar.select (BitVec.ofBool t) a b = if t then a else b := by
  cases t <;> rfl

theorem clear_word {a n : ℕ} (ha : a < 2 ^ 32) (hn : n < 2 ^ 32) :
    IntOp.cmpi .eq (IntOp.andi (BitVec.ofNat 32 a) (BitVec.ofNat 32 n)) 0#32 = BitVec.ofBool (decide (a &&& n = 0)) := by
  show BitVec.ofBool ((BitVec.ofNat 32 a &&& BitVec.ofNat 32 n) == 0#32) = _
  congr 1
  rw [Bool.eq_iff_iff, beq_iff_eq, decide_eq_true_iff, ← BitVec.toNat_inj, BitVec.toNat_and, BitVec.toNat_ofNat, BitVec.toNat_ofNat,
    Nat.mod_eq_of_lt ha, Nat.mod_eq_of_lt hn]
  rfl

/-- The source of the exchange at distance `2 ^ s`, along a row and along a column. -/
theorem swap_low : ∀ s < 7, ∀ p < 2048,
    (if p % 128 &&& 2 ^ s = 0 then (p % 128 + 128 - (128 - 2 ^ s) % 128) % 128 else (p % 128 + 128 - 2 ^ s % 128) % 128) = (p ^^^ 2 ^ s) % 128
      ∧ p / 128 = (p ^^^ 2 ^ s) / 128 := by decide +kernel
theorem swap_high_row : ∀ t < 4, ∀ g < 4, ∀ q < 16,
    (if 16 * g + q &&& 2 ^ t = 0 then (16 * g + q + 64 - (64 - 2 ^ t) % 64) % 64 else (16 * g + q + 64 - 2 ^ t % 64) % 64) = 16 * g + (q ^^^ 2 ^ t) := by
  decide +kernel
theorem swap_high : ∀ t < 4, ∀ p < 2048, p / 128 ^^^ 2 ^ t = (p ^^^ 2 ^ (t + 7)) / 128 ∧ p % 128 = (p ^^^ 2 ^ (t + 7)) % 128 := by
  decide +kernel
theorem small_words : ∀ s < 7, (BitVec.ofNat 32 (128 - 2 ^ s)).toNat = 128 - 2 ^ s ∧ (BitVec.ofNat 32 (2 ^ s)).toNat = 2 ^ s
    ∧ (BitVec.ofNat 32 (64 - 2 ^ s)).toNat = 64 - 2 ^ s ∧ 2 ^ s < 2 ^ 32 := by decide

/-- Exchanging reads the partner. -/
theorem swap_at {α : Type} {s : ℕ} (hs : s < 11) (x : S64x128.Idx → α) (g : Fin 4) (p : Fin (2 ^ 11)) :
    swap s x (at' g p) = x (at' g (partner 11 s p)) := by
  have hp := p.isLt
  have hg := g.isLt
  have hpv := partner_val hs p
  unfold swap
  by_cases h : s < 7
  · rw [show Nat.blt s 7 = true from by simpa [Nat.blt_eq] using h, cond_true]
    obtain ⟨w1, w2, -, w4⟩ := small_words s h
    obtain ⟨e1, e2⟩ := swap_low s h p.val hp
    show Scalar.select (IntOp.cmpi .eq (IntOp.andi (lane (at' g p)) _) 0#32) _ _ = _
    rw [lane_at, rotate_lane, rotate_lane, w1, w2]
    show Scalar.select (IntOp.cmpi .eq (IntOp.andi (BitVec.ofNat 32 (p.val % 128)) (BitVec.ofNat 32 (2 ^ s))) 0#32) _ _ = _
    rw [clear_word (by omega) w4, scalar_select]
    simp only [decide_eq_true_eq]
    have key : ∀ (j : Fin 128), j.val = (p.val ^^^ 2 ^ s) % 128 → x (ix2 (n0 := 64) (n1 := 128) (at' g p 0) j) = x (at' g (partner 11 s p)) := by
      intro j hj
      refine congrArg x (at'_ext ?_ ?_)
      · show 16 * g.val + p.val / 128 = _
        rw [hpv, ← e2]
      · show j.val = _
        rw [hj, hpv]
    split
    · rename_i hc
      rw [if_pos hc] at e1
      exact key _ e1
    · rename_i hc
      rw [if_neg hc] at e1
      exact key _ e1
  · rw [show Nat.blt s 7 = false from by rw [← Bool.not_eq_true, Nat.blt_eq]; exact h, cond_false]
    obtain ⟨t, rfl⟩ : ∃ t, s = t + 7 := ⟨s - 7, by omega⟩
    have ht : t < 4 := by omega
    rw [show t + 7 - 7 = t from by omega]
    obtain ⟨-, w2, w3, w4⟩ := small_words t (by omega)
    have e1 := swap_high_row t ht g.val hg (p.val / 128) (by omega)
    obtain ⟨e2, e3⟩ := swap_high t ht p.val hp
    show Scalar.select (IntOp.cmpi .eq (IntOp.andi (row (at' g p)) _) 0#32) _ _ = _
    rw [row_at, rotate_row, rotate_row, w3, w2]
    show Scalar.select (IntOp.cmpi .eq (IntOp.andi (BitVec.ofNat 32 (16 * g.val + p.val / 128)) (BitVec.ofNat 32 (2 ^ t))) 0#32) _ _ = _
    rw [clear_word (by omega) w4, scalar_select]
    simp only [decide_eq_true_eq]
    have key : ∀ (j : Fin 64), j.val = 16 * g.val + (p.val / 128 ^^^ 2 ^ t) →
        x (ix2 (n0 := 64) (n1 := 128) j (at' g p 1)) = x (at' g (partner 11 (t + 7) p)) := by
      intro j hj
      refine congrArg x (at'_ext ?_ ?_)
      · show j.val = _
        rw [hj, hpv, e2]
      · show p.val % 128 = _
        rw [hpv, ← e3]
    split
    · rename_i hc
      rw [if_pos hc] at e1
      exact key _ e1
    · rename_i hc
      rw [if_neg hc] at e1
      exact key _ e1

/-- The order in which record `g` is sorted: by value, then by position. -/
def key (x : FVec Ideal S64x128 .f32) (g : Fin 4) (p : Fin (2 ^ 11)) : EReal ×ₗ Fin (2 ^ 11) := toLex (x (at' g p), p)

theorem key_injective (x : FVec Ideal S64x128 .f32) (g : Fin 4) : Function.Injective (key x g) := fun p q h => by
  have : ofLex (key x g p) = ofLex (key x g q) := congrArg ofLex h
  exact (Prod.ext_iff.mp this).2

theorem key_lt (x : FVec Ideal S64x128 .f32) (g : Fin 4) (p q : Fin (2 ^ 11)) :
    key x g p < key x g q ↔ x (at' g p) < x (at' g q) ∨ x (at' g p) = x (at' g q) ∧ p < q := by
  unfold key
  rw [Prod.Lex.lt_iff]
  rfl

/-- The state's keys and positions are record `g`'s, rearranged by `π`. -/
def Holds (x : FVec Ideal S64x128 .f32) (g : Fin 4) (st : St Ideal) (π : Fin (2 ^ 11) → Fin (2 ^ 11)) : Prop :=
  ∀ p, st.K (at' g p) = x (at' g (π p)) ∧ st.I (at' g p) = BitVec.ofNat 32 (π p).val

theorem toInt_word {a : ℕ} (ha : a < 2 ^ 31) : (BitVec.ofNat 32 a).toInt = (a : ℤ) := by
  have h : (BitVec.ofNat 32 a).toNat = a := by rw [BitVec.toNat_ofNat]; omega
  rw [BitVec.toInt_eq_toNat_of_lt (by rw [h]; omega), h]

theorem slt_word {a b : ℕ} (ha : a < 2 ^ 31) (hb : b < 2 ^ 31) :
    (BitVec.ofNat 32 a).slt (BitVec.ofNat 32 b) = decide (a < b) := by
  rw [BitVec.slt, toInt_word ha, toInt_word hb]
  refine decide_eq_decide.mpr ?_
  omega

theorem sle_word {a b : ℕ} (ha : a < 2 ^ 31) (hb : b < 2 ^ 31) :
    (BitVec.ofNat 32 a).sle (BitVec.ofNat 32 b) = decide (a ≤ b) := by
  rw [BitVec.sle, toInt_word ha, toInt_word hb]
  refine decide_eq_decide.mpr ?_
  omega

theorem ofBool_xor (a b : Bool) : IntOp.xori (BitVec.ofBool a) (BitVec.ofBool b) = BitVec.ofBool (a ^^ b) := by
  cases a <;> cases b <;> decide
theorem ofBool_or (a b : Bool) : IntOp.ori (BitVec.ofBool a) (BitVec.ofBool b) = BitVec.ofBool (a || b) := by
  cases a <;> cases b <;> decide
theorem ofBool_and (a b : Bool) : IntOp.andi (BitVec.ofBool a) (BitVec.ofBool b) = BitVec.ofBool (a && b) := by
  cases a <;> cases b <;> decide

theorem pow_small : ∀ n < 12, 2 ^ n < 2 ^ 31 := by decide

theorem take_at {x : FVec Ideal S64x128 .f32} {g : Fin 4} {st : St Ideal} {π : Fin (2 ^ 11) → Fin (2 ^ 11)}
    (h : Holds x g st π) {l s : ℕ} (hs : s < 11) (hl : l < 11) (p : Fin (2 ^ 11)) :
    take l s st.K st.I (at' g p) = BitVec.ofBool (keeps l s (key x g ∘ π) p) := by
  have hp : p.val < 2 ^ 32 := lt_trans p.isLt (by decide)
  show IntOp.xori (IntOp.xori (IntOp.ori (Ideal.cmp .olt (st.K (at' g p)) (swap s st.K (at' g p)))
    (IntOp.andi (Ideal.cmp .oeq (st.K (at' g p)) (swap s st.K (at' g p))) (IntOp.cmpi .slt (st.I (at' g p)) (swap s st.I (at' g p)))))
    (IntOp.cmpi .eq (IntOp.andi (pos (at' g p)) (BitVec.ofNat 32 (2 ^ s))) 0#32))
    (IntOp.cmpi .eq (IntOp.andi (pos (at' g p)) (BitVec.ofNat 32 (2 ^ (l + 1)))) 0#32) = _
  rw [swap_at hs, swap_at hs, pos_at, clear_word hp (lt_trans (pow_small s (by omega)) (by decide)),
    clear_word hp (lt_trans (pow_small (l + 1) (by omega)) (by decide)), (h p).1, (h p).2, (h _).1, (h _).2]
  have hslt : IntOp.cmpi .slt (BitVec.ofNat 32 (π p).val) (BitVec.ofNat 32 (π (partner 11 s p)).val)
      = BitVec.ofBool (decide (π p < π (partner 11 s p))) := by
    show BitVec.ofBool ((BitVec.ofNat 32 (π p).val).slt _) = _
    rw [slt_word (lt_trans (Fin.isLt _) (by decide)) (lt_trans (Fin.isLt _) (by decide))]
    rfl
  rw [hslt]
  show IntOp.xori (IntOp.xori (IntOp.ori (BitVec.ofBool (decide _)) (IntOp.andi (BitVec.ofBool (decide _)) _)) _) _ = _
  rw [ofBool_and, ofBool_or, ofBool_xor, ofBool_xor]
  unfold keeps
  congr 3
  rw [← Bool.decide_and, ← Bool.decide_or]
  exact decide_eq_decide.mpr (key_lt x g _ _).symm

theorem select_at {α : Type} (c : IVec S64x128 1) (a b : S64x128.Idx → α) (j : S64x128.Idx) (t : Bool) (h : c j = BitVec.ofBool t) :
    select c a b j = if t then a j else b j := by
  show Scalar.select (c j) _ _ = _
  rw [h, scalar_select]

/-- One stage rearranges by its choices. -/
theorem step_holds {x : FVec Ideal S64x128 .f32} {g : Fin 4} {st : St Ideal} {π : Fin (2 ^ 11) → Fin (2 ^ 11)}
    (h : Holds x g st π) {l s : ℕ} (hs : s < 11) (hl : l < 11) (b : ℕ) :
    Holds x g (step l s b st) (π ∘ move l s (key x g ∘ π)) := fun p => by
  show select _ _ _ _ = x (at' g (π (if keeps l s (key x g ∘ π) p then p else partner 11 s p)))
    ∧ select _ _ _ _ = BitVec.ofNat 32 (π (if keeps l s (key x g ∘ π) p then p else partner 11 s p)).val
  rw [select_at _ _ _ _ _ (take_at h hs hl p), select_at _ _ _ _ _ (take_at h hs hl p), swap_at hs, swap_at hs,
    (h p).1, (h p).2, (h _).1, (h _).2]
  split <;> exact ⟨rfl, rfl⟩

/-- Every stage's level and distance are below 11. -/
def Small (L : List (ℕ × ℕ)) : Prop := ∀ q ∈ L, q.2 < 11 ∧ q.1 < 11

theorem run_holds {x : FVec Ideal S64x128 .f32} {g : Fin 4} (L : List (ℕ × ℕ)) (hL : Small L) :
    ∀ {st : St Ideal} {π : Fin (2 ^ 11) → Fin (2 ^ 11)} (b : ℕ), Holds x g st π →
      Holds x g (run b L st) (π ∘ moved L (key x g ∘ π)) := by
  induction L with
  | nil => intro st π b h; exact h
  | cons q L ih =>
    obtain ⟨l, s⟩ := q
    intro st π b h
    have hq := hL (l, s) List.mem_cons_self
    exact ih (fun q hq => hL q (List.mem_cons_of_mem _ hq)) (b + 1) (step_holds h hq.1 hq.2 b)

theorem bit_test (w : BitVec 32) {b : ℕ} (hb : b < 32) :
    IntOp.cmpi .ne (IntOp.andi w (BitVec.ofNat 32 (2 ^ b))) 0#32 = BitVec.ofBool (w.getLsbD b) := by
  show BitVec.ofBool ((w &&& BitVec.ofNat 32 (2 ^ b)) != 0#32) = _
  congr 1
  have hw : BitVec.ofNat 32 (2 ^ b) = BitVec.twoPow 32 b := by
    apply BitVec.eq_of_toNat_eq
    rw [BitVec.toNat_ofNat, BitVec.toNat_twoPow]
  rw [hw, BitVec.and_twoPow]
  cases hc : w.getLsbD b
  · rfl
  · rw [if_pos rfl, bne_iff_ne]
    intro h0
    have := congrArg (fun v => v.getLsbD b) h0
    simp [BitVec.getLsbD_twoPow, hb] at this

theorem step_bit {x : FVec Ideal S64x128 .f32} {g : Fin 4} {st : St Ideal} {π : Fin (2 ^ 11) → Fin (2 ^ 11)}
    (h : Holds x g st π) {l s : ℕ} (hs : s < 11) (hl : l < 11) {b : ℕ} (hb : b < 32) (p : Fin (2 ^ 11)) (j : ℕ) :
    ((step l s b st).W (at' g p)).getLsbD j
      = ((st.W (at' g p)).getLsbD j || (keeps l s (key x g ∘ π) p && decide (b = j))) := by
  show (st.W (at' g p) ||| select _ _ _ _).getLsbD j = _
  rw [select_at _ _ _ _ _ (take_at h hs hl p), BitVec.getLsbD_or]
  congr 1
  have hw : BitVec.ofNat 32 (2 ^ b) = BitVec.twoPow 32 b := by
    apply BitVec.eq_of_toNat_eq
    rw [BitVec.toNat_ofNat, BitVec.toNat_twoPow]
  cases keeps l s (key x g ∘ π) p
  · show (0#32).getLsbD j = _
    simp
  · show (BitVec.ofNat 32 (2 ^ b)).getLsbD j = _
    rw [hw, BitVec.getLsbD_twoPow, Bool.true_and, decide_eq_true hb, Bool.true_and]

/-- Bits below a stage's are left alone by the stages after it. -/
theorem run_low_bit {x : FVec Ideal S64x128 .f32} {g : Fin 4} (L : List (ℕ × ℕ)) (hL : Small L) :
    ∀ {st : St Ideal} {π : Fin (2 ^ 11) → Fin (2 ^ 11)} (b : ℕ), Holds x g st π → b + L.length ≤ 32 → ∀ p, ∀ j < b,
      ((run b L st).W (at' g p)).getLsbD j = (st.W (at' g p)).getLsbD j := by
  induction L with
  | nil => intro st π b h _ p j _; rfl
  | cons q L ih =>
    obtain ⟨l, s⟩ := q
    intro st π b h hb p j hj
    have hq := hL (l, s) List.mem_cons_self
    rw [List.length_cons] at hb
    refine (ih (fun q hq => hL q (List.mem_cons_of_mem _ hq)) (b + 1) (step_holds h hq.1 hq.2 b) (by omega) p j (by omega)).trans ?_
    rw [step_bit h hq.1 hq.2 (by omega), decide_eq_false (by omega), Bool.and_false, Bool.or_false]

/-- Replaying the choices of the stages `L` from the word they leave. -/
theorem back_at {α : Type} {x : FVec Ideal S64x128 .f32} {g : Fin 4} (y : S64x128.Idx → α) (L : List (ℕ × ℕ)) (hL : Small L) :
    ∀ {st : St Ideal} {π : Fin (2 ^ 11) → Fin (2 ^ 11)} (b : ℕ), Holds x g st π → b + L.length ≤ 32 →
      (∀ p, ∀ j, b ≤ j → (st.W (at' g p)).getLsbD j = false) → ∀ w, (∀ p, w (at' g p) = (run b L st).W (at' g p)) → ∀ p,
      back w b L y (at' g p) = y (at' g (undone L (key x g ∘ π) p)) := by
  induction L with
  | nil => intro st π b h _ _ w _ p; rfl
  | cons q L ih =>
    obtain ⟨l, s⟩ := q
    intro st π b h hb hc w hw p
    have hq := hL (l, s) List.mem_cons_self
    have hL' : Small L := fun q hq => hL q (List.mem_cons_of_mem _ hq)
    rw [List.length_cons] at hb
    have hst := step_holds h hq.1 hq.2 b
    have hrec := ih hL' (b + 1) hst (by omega) (fun p j hj => by
      rw [step_bit h hq.1 hq.2 (by omega), hc p j (by omega), decide_eq_false (by omega), Bool.and_false, Bool.or_false]) w hw
    have hbit : (w (at' g p)).getLsbD b = keeps l s (key x g ∘ π) p := by
      rw [hw p]
      refine (run_low_bit L hL' (b + 1) hst (by omega) p b (by omega)).trans ?_
      rw [step_bit h hq.1 hq.2 (by omega), hc p b le_rfl, decide_eq_true rfl, Bool.and_true, Bool.false_or]
    show select _ _ _ _ = _
    rw [select_at _ _ _ _ (keeps l s (key x g ∘ π) p) ((bit_test _ (by omega)).trans (by rw [hbit])), swap_at hq.1, hrec, hrec]
    show _ = y (at' g (undone L ((key x g ∘ π) ∘ move l s (key x g ∘ π)) (if keeps l s (key x g ∘ π) p then p else partner 11 s p)))
    split <;> rfl

theorem moved_append {α : Type*} [LinearOrder α] (A B : List (ℕ × ℕ)) (e : Fin (2 ^ 11) → α) :
    moved (A ++ B) e = moved A e ∘ moved B (e ∘ moved A e) := by
  induction A generalizing e with
  | nil => rfl
  | cons q A ih =>
    show move q.1 q.2 e ∘ moved (A ++ B) _ = (move q.1 q.2 e ∘ moved A _) ∘ _
    rw [ih]
    rfl

theorem undone_append {α : Type*} [LinearOrder α] (A B : List (ℕ × ℕ)) (e : Fin (2 ^ 11) → α) :
    undone (A ++ B) e = undone B (e ∘ moved A e) ∘ undone A e := by
  induction A generalizing e with
  | nil => rfl
  | cons q A ih =>
    show undone (A ++ B) _ ∘ move q.1 q.2 e = undone B _ ∘ (undone A _ ∘ move q.1 q.2 e)
    rw [ih]
    rfl

theorem words_stages : word0 ++ (word1 ++ word2) = stages := by decide

theorem small0 : Small word0 := by unfold Small; decide
theorem small1 : Small word1 := by unfold Small; decide
theorem small2 : Small word2 := by unfold Small; decide

theorem zero_bit (j : ℕ) : (0#32).getLsbD j = false := by simp

theorem init_holds (x : FVec Ideal S64x128 .f32) (g : Fin 4) : Holds x g ⟨x, pos, broadcast S64x128 0#32⟩ id :=
  fun p => ⟨rfl, pos_at g p⟩

/-- A run from an empty word: what it holds, and what replaying its word does. -/
theorem word_run {x : FVec Ideal S64x128 .f32} {g : Fin 4} {st : St Ideal} {π : Fin (2 ^ 11) → Fin (2 ^ 11)} (h : Holds x g st π)
    (L : List (ℕ × ℕ)) (hL : Small L) (hn : L.length ≤ 32) :
    Holds x g (run 0 L (fresh st)) (π ∘ moved L (key x g ∘ π))
      ∧ ∀ {α : Type} (y : S64x128.Idx → α) (p : Fin (2 ^ 11)),
        back (run 0 L (fresh st)).W 0 L y (at' g p) = y (at' g (undone L (key x g ∘ π) p)) := by
  have h' : Holds x g (fresh st) π := fun p => h p
  exact ⟨run_holds L hL 0 h', fun y p => back_at y L hL 0 h' (by omega) (fun p j _ => zero_bit j) _ (fun _ => rfl) p⟩

/-- Three words of stages, one after the other, then replayed. -/
theorem three_words (x : FVec Ideal S64x128 .f32) (g : Fin 4) {A B C : List (ℕ × ℕ)} (hA : Small A) (hB : Small B) (hC : Small C)
    (nA : A.length ≤ 32) (nB : B.length ≤ 32) (nC : C.length ≤ 32) {s0 s1 s2 : St Ideal}
    (h0 : s0 = run 0 A (fresh ⟨x, pos, broadcast S64x128 0#32⟩)) (h1 : s1 = run 0 B (fresh s0)) (h2 : s2 = run 0 C (fresh s1)) :
    Holds x g s2 (moved (A ++ (B ++ C)) (key x g))
      ∧ ∀ {α : Type} (y : S64x128.Idx → α) (p : Fin (2 ^ 11)),
        back s0.W 0 A (back s1.W 0 B (back s2.W 0 C y)) (at' g p) = y (at' g (undone (A ++ (B ++ C)) (key x g) p)) := by
  have r0 := word_run (init_holds x g) A hA nA
  rw [← h0] at r0
  have r1 := word_run r0.1 B hB nB
  rw [← h1] at r1
  have r2 := word_run r1.1 C hC nC
  rw [← h2] at r2
  rw [moved_append, moved_append, undone_append, undone_append]
  exact ⟨r2.1, fun y p => by rw [r0.2, r1.2, r2.2]; rfl⟩

theorem st_words (x : FVec Ideal S64x128 .f32) (g : Fin 4) :
    Holds x g (st2 x) (moved stages (key x g))
      ∧ ∀ {α : Type} (y : S64x128.Idx → α) (p : Fin (2 ^ 11)),
        back (st0 x).W 0 word0 (back (st1 x).W 0 word1 (back (st2 x).W 0 word2 y)) (at' g p)
          = y (at' g (undone stages (key x g) p)) := by
  rw [← words_stages]
  exact three_words x g small0 small1 small2 (by decide) (by decide) (by decide) rfl rfl rfl

end Cert.Sort

end
-- ==== Proof.SliceValue.lean ====
/- What a sorted slice gives, in closed form: the running products of the sorted order, undone. -/
module

public import proofs.«01_k».proof.Proof.SortRead

@[expose] public section

set_option maxRecDepth 20000

noncomputable section

namespace Cert.Sort

open Cert.KernelIdeal Cert.KernelIdeal.Gen Idealize.ShloMosaic Idealize.ShloMosaic.SortNet Cert.SortMath

/-- Where the value `2 ^ k` positions before stands. -/
theorem shift_low {k : ℕ} (hk : k < 7) (g : ℕ) (p : ℕ) (hp : p < 2048) (hg : g < 4) (h : 2 ^ k ≤ p) :
    if 2 ^ k ≤ p % 128 then (p % 128 + 128 - 2 ^ k % 128) % 128 = (p - 2 ^ k) % 128 ∧ p / 128 = (p - 2 ^ k) / 128
    else (p % 128 + 128 - 2 ^ k % 128) % 128 = (p - 2 ^ k) % 128 ∧ (16 * g + p / 128 + 64 - 1) % 64 = 16 * g + (p - 2 ^ k) / 128 := by
  have h2 : 2 ^ k ≤ 64 := by interval_cases k <;> decide
  generalize 2 ^ k = d at *
  split <;> constructor <;> omega

theorem shift_high {t : ℕ} (ht : t < 4) (g : ℕ) (p : ℕ) (hp : p < 2048) (hg : g < 4) (h : 2 ^ (t + 7) ≤ p) :
    (16 * g + p / 128 + 64 - 2 ^ t % 64) % 64 = 16 * g + (p - 2 ^ (t + 7)) / 128 ∧ p % 128 = (p - 2 ^ (t + 7)) % 128 := by
  have h2 : 2 ^ t ≤ 8 := by interval_cases t <;> decide
  rw [pow_add] at *
  generalize 2 ^ t = d at *
  constructor <;> omega

theorem sge_word {a b : ℕ} (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  rw [sle_word hb ha]

/-- One step of the running product, read at a position. -/
theorem prodStep_at {k : ℕ} (hk : k < 11) (x : FVec Ideal S64x128 .f32) (g : Fin 4) (p : Fin (2 ^ 11)) :
    prodStep k x (at' g p) = x (at' g p) * if h : 2 ^ k ≤ p.val then x (at' g ⟨p.val - 2 ^ k, lt_of_le_of_lt (Nat.sub_le _ _) p.isLt⟩) else 1 := by
  have hp := p.isLt
  have hg := g.isLt
  show x (at' g p) * select _ _ _ _ = _
  congr 1
  rw [select_at _ _ _ _ (decide (2 ^ k ≤ p.val)) (by
    show IntOp.cmpi .sge (pos (at' g p)) (BitVec.ofNat 32 (2 ^ k)) = _
    rw [pos_at, sge_word (by omega) (pow_small k (by omega))])]
  by_cases h : 2 ^ k ≤ p.val
  · rw [dif_pos h, decide_eq_true h, if_pos rfl]
    by_cases h7 : k < 7
    · rw [show Nat.blt k 7 = true from by simpa [Nat.blt_eq] using h7, cond_true]
      obtain ⟨-, w2, -, w4⟩ := small_words k h7
      have hs := shift_low h7 g.val p.val hp hg h
      rw [select_at _ _ _ _ (decide (2 ^ k ≤ p.val % 128)) (by
        show IntOp.cmpi .sge (lane (at' g p)) (BitVec.ofNat 32 (2 ^ k)) = _
        rw [lane_at]
        exact sge_word (lt_trans (Fin.isLt _) (by decide)) (pow_small k (by omega)))]
      by_cases hl : 2 ^ k ≤ p.val % 128
      · rw [if_pos hl] at hs
        rw [decide_eq_true hl, if_pos rfl, rotate_lane, w2]
        refine congrArg x (at'_ext ?_ ?_)
        · exact congrArg (16 * g.val + ·) hs.2
        · exact hs.1
      · rw [if_neg hl] at hs
        rw [decide_eq_false hl, if_neg Bool.false_ne_true, rotate_row, rotate_lane, w2]
        refine congrArg x (at'_ext ?_ ?_)
        · exact hs.2
        · exact hs.1
    · rw [show Nat.blt k 7 = false from by rw [← Bool.not_eq_true, Nat.blt_eq]; exact h7, cond_false]
      obtain ⟨t, rfl⟩ : ∃ t, k = t + 7 := ⟨k - 7, by omega⟩
      have ht : t < 4 := by omega
      rw [show t + 7 - 7 = t from by omega]
      obtain ⟨-, w2, -, -⟩ := small_words t (by omega)
      have hs := shift_high ht g.val p.val hp hg h
      rw [rotate_row, w2]
      exact congrArg x (at'_ext hs.1 hs.2)
  · rw [dif_neg h, decide_eq_false h, if_neg Bool.false_ne_true]
    exact Ideal.ofBits_one_f32

/-- After `n` steps every position holds the product of the last `2 ^ n` values. -/
theorem prods_at (x : FVec Ideal S64x128 .f32) (g : Fin 4) : ∀ n ≤ 11, ∀ p : Fin (2 ^ 11),
    prods x n (at' g p) = ∏ q ∈ Finset.univ.filter (fun q : Fin (2 ^ 11) => q ≤ p ∧ p.val < q.val + 2 ^ n), x (at' g q)
  | 0, _, p => by
    have : Finset.univ.filter (fun q : Fin (2 ^ 11) => q ≤ p ∧ p.val < q.val + 2 ^ 0) = {p} := by
      ext q
      simp only [Finset.mem_filter, Finset.mem_univ, true_and, Finset.mem_singleton, Fin.ext_iff, Fin.le_def]
      omega
    rw [this, Finset.prod_singleton]
    rfl
  | n + 1, hn, p => by
    show prodStep n (prods x n) (at' g p) = _
    rw [prodStep_at (by omega), prods_at x g n (by omega)]
    have h2 : 2 ^ (n + 1) = 2 ^ n + 2 ^ n := by rw [pow_succ]; omega
    by_cases h : 2 ^ n ≤ p.val
    · rw [dif_pos h, prods_at x g n (by omega), ← Finset.prod_union]
      · refine Finset.prod_congr ?_ fun _ _ => rfl
        ext q
        simp only [Finset.mem_union, Finset.mem_filter, Finset.mem_univ, true_and, Fin.le_def]
        rw [h2]
        generalize 2 ^ n = d at *
        omega
      · rw [Finset.disjoint_left]
        intro q
        simp only [Finset.mem_filter, Finset.mem_univ, true_and, Fin.le_def]
        generalize 2 ^ n = d at *
        omega
    · rw [dif_neg h, mul_one]
      refine Finset.prod_congr ?_ fun _ _ => rfl
      ext q
      simp only [Finset.mem_filter, Finset.mem_univ, true_and, Fin.le_def]
      rw [h2]
      generalize 2 ^ n = d at *
      omega

theorem prods_all (x : FVec Ideal S64x128 .f32) (g : Fin 4) (p : Fin (2 ^ 11)) :
    prods x 11 (at' g p) = ∏ q ∈ Finset.univ.filter (· ≤ p), x (at' g q) := by
  rw [prods_at x g 11 le_rfl]
  refine Finset.prod_congr (Finset.filter_congr fun q _ => ?_) fun _ _ => rfl
  have := p.isLt
  exact ⟨fun h => h.1, fun h => ⟨h, by omega⟩⟩

/-- The value a record's position is given: one minus its entry, times the entries not after it in the order by value
    and position. -/
def alloc (u : Fin (2 ^ 11) → EReal) (p : Fin (2 ^ 11)) : EReal :=
  (1 - u p) * ∏ j ∈ Finset.univ.filter (fun j => (toLex (u j, j) : EReal ×ₗ Fin (2 ^ 11)) ≤ toLex (u p, p)), u j

/-- A slice gives every record its `alloc`. -/
theorem slice_at (x : FVec Ideal S64x128 .f32) (g : Fin 4) (p : Fin (2 ^ 11)) :
    slice x (at' g p) = alloc (fun q => x (at' g q)) p := by
  obtain ⟨hh, hb⟩ := st_words x g
  show back (st0 x).W 0 word0 (back (st1 x).W 0 word1 (back (st2 x).W 0 word2 (sortedAlloc (st2 x).K))) (at' g p) = _
  rw [hb]
  show (FloatOps.ofBits .f32 0x3F800000#32 - (st2 x).K (at' g _)) * prods (st2 x).K 11 (at' g _) = _
  rw [prods_all, (hh _).1, moved_undone stages good_stages (key x g) (key_injective x g), show (FloatOps.ofBits .f32 0x3F800000#32 : Ideal .f32) = 1 from Ideal.ofBits_one_f32]
  unfold alloc
  congr 1
  refine Eq.trans ?_ (prod_sorted (key x g) (key_injective x g) (fun j => x (at' g j)) p)
  exact Finset.prod_congr rfl fun q _ => (hh q).1

end Cert.Sort

end
-- ==== Proof.LaneReduce.lean ====
/- The reduction of a block's lanes: halves combined down to 128 lanes, then rotations combined until every lane holds
   the whole. -/
module

public import proofs.«01_k».proof.Proof.Gen.KernelIdeal.Frame
public import Idealize.ShloMosaic.Lib.Pointwise
public import Idealize.ShloMosaic.Lib.Pipeline.Value

@[expose] public section

set_option maxRecDepth 20000

noncomputable section

namespace Cert.Lanes

open Cert.KernelIdeal Cert.KernelIdeal.Gen Idealize.ShloMosaic

section Sums
variable {M : Type} [AddCommMonoid M]

theorem sum_pairs (f : ℕ → M) (m : ℕ) :
    ∑ k ∈ Finset.range (2 * m), f k = ∑ k ∈ Finset.range m, f (2 * k) + ∑ k ∈ Finset.range m, f (2 * k + 1) := by
  induction m with
  | zero => simp
  | succ m ih =>
    rw [show 2 * (m + 1) = 2 * m + 1 + 1 from by ring, Finset.sum_range_succ, Finset.sum_range_succ, ih,
      Finset.sum_range_succ, Finset.sum_range_succ]
    abel

/-- The lane `s` places before, around the end. -/
def before (l : Fin 128) (s : ℕ) : Fin 128 := ⟨(l.val + 127 * s) % 128, Nat.mod_lt _ (by decide)⟩

theorem before_before (l : Fin 128) (s t : ℕ) : before (before l s) t = before l (s + t) := by
  refine Fin.ext ?_
  show ((l.val + 127 * s) % 128 + 127 * t) % 128 = (l.val + 127 * (s + t)) % 128
  omega

/-- A combination at distance `s` halves the distance of a sum over equally spaced lanes. -/
theorem combine (f : Fin 128 → M) (m s : ℕ) (l : Fin 128) :
    ∑ k ∈ Finset.range m, f (before l (2 * s * k)) + ∑ k ∈ Finset.range m, f (before (before l s) (2 * s * k)) =
      ∑ k ∈ Finset.range (2 * m), f (before l (s * k)) := by
  rw [sum_pairs]
  congr 1
  · exact Finset.sum_congr rfl fun k _ => by rw [show s * (2 * k) = 2 * s * k from by ring]
  · exact Finset.sum_congr rfl fun k _ => by rw [before_before, show s * (2 * k + 1) = s + 2 * s * k from by ring]

theorem all_lanes (f : Fin 128 → M) (l : Fin 128) :
    ∑ k ∈ Finset.range 128, f (before l (1 * k)) = ∑ k, f k := by
  rw [Finset.sum_range]
  refine Finset.sum_bij' (fun k _ => before l k.val) (fun k _ => before l k.val) ?_ ?_ ?_ ?_ ?_
  · intro k _; exact Finset.mem_univ _
  · intro k _; exact Finset.mem_univ _
  · intro k _
    refine Fin.ext ?_
    show (l.val + 127 * ((l.val + 127 * k.val) % 128)) % 128 = k.val
    have := k.isLt
    omega
  · intro k _
    refine Fin.ext ?_
    show (l.val + 127 * ((l.val + 127 * k.val) % 128)) % 128 = k.val
    have := k.isLt
    omega
  · intro k _
    rw [one_mul]

end Sums

/-- The combinations: `x` at distance `w` of a lane vector. -/
def turn {M : Type} (op : M → M → M) (s : ℕ) (y : S8x128.Idx → M) : S8x128.Idx → M :=
  fun j => op (y j) (dynamicRotate 1 (BitVec.ofNat 32 s) none y rotates_S8x128_d1 j)

def fold4 {M : Type} (op : M → M → M) (x : S8x2048.Idx → M) : S8x128.Idx → M :=
  let a : S8x1024.Idx → M := fun j => op (extractStridedSlice S8x1024 ![0, 0] x slices_S8x2048_o0_0_S8x1024 j)
    (extractStridedSlice S8x1024 ![0, 1024] x slices_S8x2048_o0_1024_S8x1024 j)
  let b : S8x512.Idx → M := fun j => op (extractStridedSlice S8x512 ![0, 0] a slices_S8x1024_o0_0_S8x512 j)
    (extractStridedSlice S8x512 ![0, 512] a slices_S8x1024_o0_512_S8x512 j)
  let c : S8x256.Idx → M := fun j => op (extractStridedSlice S8x256 ![0, 0] b slices_S8x512_o0_0_S8x256 j)
    (extractStridedSlice S8x256 ![0, 256] b slices_S8x512_o0_256_S8x256 j)
  fun j => op (extractStridedSlice S8x128 ![0, 0] c slices_S8x256_o0_0_S8x128 j)
    (extractStridedSlice S8x128 ![0, 128] c slices_S8x256_o0_128_S8x128 j)

def turns {M : Type} (op : M → M → M) (y : S8x128.Idx → M) : S8x128.Idx → M :=
  turn op 1 (turn op 2 (turn op 4 (turn op 8 (turn op 16 (turn op 32 (turn op 64 y))))))

/-- The lanes as sixteen copies side by side. -/
def spread {M : Type} (y : S8x128.Idx → M) : S8x2048.Idx → M :=
  concatenate S8x2048 1 [⟨S8x128, y⟩, ⟨S8x128, y⟩, ⟨S8x128, y⟩, ⟨S8x128, y⟩, ⟨S8x128, y⟩, ⟨S8x128, y⟩, ⟨S8x128, y⟩,
    ⟨S8x128, y⟩, ⟨S8x128, y⟩, ⟨S8x128, y⟩, ⟨S8x128, y⟩, ⟨S8x128, y⟩, ⟨S8x128, y⟩, ⟨S8x128, y⟩, ⟨S8x128, y⟩, ⟨S8x128, y⟩]
    concatenates_S8x128_S8x128_S8x128_S8x128_S8x128_S8x128_S8x128_S8x128_S8x128_S8x128_S8x128_S8x128_S8x128_S8x128_S8x128_S8x128_S8x2048_d1

theorem rotate_at {M : Type} (s : ℕ) (hs : s < 128) (y : S8x128.Idx → M) (r : Fin 8) (l : Fin 128) :
    dynamicRotate 1 (BitVec.ofNat 32 s) none y rotates_S8x128_d1 (ix2 r l) = y (ix2 r (before l s)) := by
  have e : (BitVec.ofNat 32 s).toNat = s := by
    rw [BitVec.toNat_ofNat]; exact Nat.mod_eq_of_lt (by omega)
  simp only [pointwise]
  refine congrArg y ((ix2_inj _ _ _ _).mpr ⟨rfl, Fin.ext ?_⟩)
  show (l.val + 128 - ((BitVec.ofNat 32 s).toNat + 0) % 128) % 128 = (l.val + 127 * s) % 128
  rw [e]
  have := l.isLt
  omega

theorem part_at {M : Type} {n m o : ℕ} (x : (⟨2, ![8, n]⟩ : Shape).Idx → M)
    (h : (⟨2, ![8, n]⟩ : Shape).Slices ![0, o] ⟨2, ![8, m]⟩) (r : Fin 8) (l : Fin m) :
    extractStridedSlice ⟨2, ![8, m]⟩ ![0, o] x h (ix2 r l) =
      x (ix2 r ⟨o + l.val, lt_of_lt_of_le (Nat.add_lt_add_left l.isLt o) (h.2 1)⟩) := by
  unfold extractStridedSlice
  refine congrArg x ?_
  rw [← ix2_eta (n0 := 8) (n1 := n) fun a => _]
  exact (ix2_inj _ _ _ _).mpr ⟨Fin.ext (Nat.zero_add _), rfl⟩

section Monoid
variable {M : Type} [AddCommMonoid M]

theorem turns_at (y : S8x128.Idx → M) (r : Fin 8) (l : Fin 128) :
    turns (· + ·) y (ix2 r l) = ∑ k, y (ix2 r k) := by
  have step : ∀ (s m : ℕ) (z : S8x128.Idx → M), s < 128 →
      (∀ l, z (ix2 r l) = ∑ k ∈ Finset.range m, y (ix2 r (before l (2 * s * k)))) →
      ∀ l, turn (· + ·) s z (ix2 r l) = ∑ k ∈ Finset.range (2 * m), y (ix2 r (before l (s * k))) := by
    intro s m z hs h l
    show z (ix2 r l) + dynamicRotate 1 (BitVec.ofNat 32 s) none z rotates_S8x128_d1 (ix2 r l) = _
    rw [rotate_at s hs, h, h]
    exact combine (fun l => y (ix2 r l)) m s l
  have h0 : ∀ l, y (ix2 r l) = ∑ k ∈ Finset.range 1, y (ix2 r (before l (2 * 64 * k))) := fun l => by
    rw [Finset.sum_range_one]
    refine congrArg y ((ix2_inj _ _ _ _).mpr ⟨rfl, Fin.ext ?_⟩)
    show l.val = (l.val + 127 * (2 * 64 * 0)) % 128
    have := l.isLt
    omega
  have h1 := step 64 1 y (by decide) h0
  have h2 := step 32 2 _ (by decide) h1
  have h3 := step 16 4 _ (by decide) h2
  have h4 := step 8 8 _ (by decide) h3
  have h5 := step 4 16 _ (by decide) h4
  have h6 := step 2 32 _ (by decide) h5
  have h7 := step 1 64 _ (by decide) h6
  exact (h7 l).trans (all_lanes (fun k => y (ix2 r k)) l)

theorem fold4_at (x : S8x2048.Idx → M) (r : Fin 8) (l : Fin 128) :
    fold4 (· + ·) x (ix2 r l) = ∑ k : Fin 16, x (ix2 r ⟨128 * k.val + l.val, by omega⟩) := by
  obtain ⟨g, hg⟩ : ∃ g : ℕ → M, ∀ i : Fin 2048, x (ix2 r i) = g i.val :=
    ⟨fun n => if h : n < 2048 then x (ix2 r ⟨n, h⟩) else 0, fun i => (show (if h : i.val < 2048 then x (ix2 r ⟨i.val, h⟩) else 0) = x (ix2 r i) from dif_pos i.isLt).symm⟩
  simp only [fold4, part_at, hg]
  rw [← Finset.sum_range (fun k => g (128 * k + l.val))]
  simp only [Finset.sum_range_succ, Finset.sum_range_zero, zero_add, ← add_assoc, Nat.reduceAdd, Nat.reduceMul]
  abel

theorem reduce_at (x : S8x2048.Idx → M) (r : Fin 8) (l : Fin 128) :
    turns (· + ·) (fold4 (· + ·) x) (ix2 r l) = ∑ i : Fin 2048, x (ix2 r i) := by
  rw [turns_at]
  simp only [fold4_at]
  rw [Finset.sum_comm, ← Fintype.sum_prod_type', ← (finProdFinEquiv (m := 16) (n := 128)).sum_comp]
  exact Finset.sum_congr rfl fun k _ => congrArg x ((ix2_inj _ _ _ _).mpr ⟨rfl, Fin.ext (Nat.add_comm _ _)⟩)

end Monoid

theorem spread_at {M : Type} (y : S8x128.Idx → M) (v : M) (r : Fin 8) (i : Fin 2048) (h : ∀ l, y (ix2 r l) = v) :
    spread y (ix2 r i) = v := by
  have hi := i.isLt
  refine (concatenate_ofFn_apply (t := S8x2048) (s₁ := S8x128) 1 (N := 16) (fun _ => y)
    concatenates_S8x128_S8x128_S8x128_S8x128_S8x128_S8x128_S8x128_S8x128_S8x128_S8x128_S8x128_S8x128_S8x128_S8x128_S8x128_S8x128_S8x2048_d1
    rfl 128 rfl (ix2 r i) ⟨i.val / 128, by omega⟩ rfl (ix2 r ⟨i.val % 128, Nat.mod_lt _ (by decide)⟩) rfl ?_).trans (h _)
  intro b hb
  fin_cases b
  · rfl
  · exact absurd rfl hb

/-- Of any commutative and associative operation with a unit. -/
theorem reduce_fold {M : Type} (op : M → M → M) [Std.Commutative op] [Std.Associative op] (e : M) (he : ∀ x, op e x = x)
    (x : S8x2048.Idx → M) (r : Fin 8) (l : Fin 128) :
    turns op (fold4 op x) (ix2 r l) = Finset.univ.fold op e fun i : Fin 2048 => x (ix2 r i) := by
  letI : AddCommMonoid M :=
    { add := op, zero := e, add_assoc := Std.Associative.assoc, zero_add := he,
      add_zero := fun x => (Std.Commutative.comm x e).trans (he x), add_comm := Std.Commutative.comm, nsmul := @nsmulRec M ⟨e⟩ ⟨op⟩,
      nsmul_zero := fun _ => rfl, nsmul_succ := fun _ _ => rfl }
  exact reduce_at x r l

/-- The greatest entry. -/
def top {n : ℕ} (x : Fin n → EReal) : EReal := Finset.univ.fold max ⊥ x

/-- The softmax of a row. -/
def softmax {n : ℕ} (x : Fin n → EReal) (i : Fin n) : EReal :=
  Ideal.div (Ideal.exp (x i - top x)) (∑ j, Ideal.exp (x j - top x))

section Kernel
variable {F : FTy → Type} [FloatOps F]

/-- The exponentials of a block's rows, as the kernel takes them. -/
def exps (x : FVec F S8x2048 .f32) : FVec F S8x2048 .f32 :=
  exp (subf x (spread (turns FloatOps.maximumf (fold4 FloatOps.maximumf x))))

/-- The softmax of a block's rows, as the kernel takes it. -/
def soft (x : FVec F S8x2048 .f32) : FVec F S8x2048 .f32 :=
  divf (exps x) (spread (turns FloatOps.addf (fold4 FloatOps.addf (exps x))))

attribute [local irreducible] extractStridedSlice concatenate dynamicRotate

theorem soft_first (v5 : FVec F S16384x128 .f32) (v19 : FVec F S8x128 .f32) (v25 : FVec F S8x1 .f32) (v31 : FVec F S8x64 .f32)
    (v32 : Vec F S64x128 .f32) :
    k0_pay14 (k0_pay12 v5 v19 v25 v31 v32) (k0_pay13 v5 v19 v25 v31 v32) = soft (k0_pay12 v5 v19 v25 v31 v32) := rfl

end Kernel

theorem exps_at (x : FVec Ideal S8x2048 .f32) (r : Fin 8) (i : Fin 2048) :
    exps x (ix2 r i) = Ideal.exp (x (ix2 r i) - top fun j => x (ix2 r j)) := by
  have h := spread_at (turns max (fold4 max x)) _ r i fun l =>
    reduce_fold (max : EReal → EReal → EReal) ⊥ bot_sup_eq x r l
  exact congrArg (fun t => Ideal.exp (x (ix2 r i) - t)) h

theorem soft_at (x : FVec Ideal S8x2048 .f32) (r : Fin 8) (i : Fin 2048) :
    soft x (ix2 r i) = softmax (fun j => x (ix2 r j)) i := by
  have h := spread_at (turns (· + ·) (fold4 (· + ·) (exps x))) _ r i fun l => reduce_at (exps x) r l
  refine (congrArg (fun t => Ideal.div (exps x (ix2 r i)) t) h).trans ?_
  simp only [exps_at]
  rfl

end Cert.Lanes

end
-- ==== Proof.Model.lean ====
/- The arithmetic of one record of the batch, in the two orders of summation, and their equality. -/
module

public import proofs.«01_k».proof.Proof.SliceValue
public import proofs.«01_k».proof.Proof.LaneReduce

@[expose] public section

noncomputable section

namespace Cert.Model

open Cert.Sort Cert.Lanes Idealize.ShloMosaic

/-- A row through a layer: each output the row's product with a weight row, and a bias. -/
def lin {n m : ℕ} (x : Fin n → EReal) (W : Fin m → Fin n → EReal) (b : Fin m → EReal) (k : Fin m) : EReal :=
  (∑ d, x d * W k d) + b k

/-- The usage of a record. -/
def use (rw ww us : EReal) (fg : EReal) : EReal :=
  ((Ideal.ofBits .f32 0x3727C5AC#32 + Ideal.ofBits .f32 0x3F7FFF58#32 * us) + ww -
    (Ideal.ofBits .f32 0x3727C5AC#32 + Ideal.ofBits .f32 0x3F7FFF58#32 * us) * ww) * (1 - fg * rw)

/-- The score of a memory row, the layer taken of each memory row. -/
def score (wi : Fin 64 → EReal) (W : Fin 64 → Fin 128 → EReal) (b : Fin 64 → EReal) (row : Fin 128 → EReal) : EReal :=
  ∑ h, wi h * lin row W b h

/-- The same score, the key multiplied through the layer first. -/
def score' (wi : Fin 64 → EReal) (W : Fin 64 → Fin 128 → EReal) (b : Fin 64 → EReal) (row : Fin 128 → EReal) : EReal :=
  (∑ k, (∑ h, wi h * W h k) * row k) + ∑ h, wi h * b h

/-- The write weights: half the sum of the content weights and the allocations. -/
def weight (s : Fin 2048 → EReal) (u : Fin 2048 → EReal) (i : Fin 2048) : EReal :=
  (softmax s i + alloc u i) * Ideal.ofBits .f32 0x3F000000#32

/-- The memory after the write. -/
def remem (mem : Fin 2048 → Fin 128 → EReal) (w : Fin 2048 → EReal) (e : Fin 128 → EReal) (i : Fin 2048) (k : Fin 128) : EReal :=
  mem i k + w i * e k

/-- The read score from the memory before the write. -/
def rescore' (rq : Fin 64 → EReal) (W : Fin 64 → Fin 128 → EReal) (b : Fin 64 → EReal) (row : Fin 128 → EReal)
    (w : EReal) (e : Fin 128 → EReal) : EReal :=
  (∑ k, (∑ h, rq h * W h k) * row k) + w * (∑ k, e k * ∑ h, rq h * W h k) + ∑ h, rq h * b h

/-- The read vector through the output layer. -/
def out (wr : Fin 2048 → EReal) (mem : Fin 2048 → Fin 128 → EReal) (W : Fin 512 → Fin 128 → EReal) (b : Fin 512 → EReal)
    (o : Fin 512) : EReal :=
  lin (fun k => ∑ i, wr i * mem i k) W b o

/-- Neither infinity. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, by norm_cast⟩

theorem Fin'.sub {x y : EReal} (hx : Fin' x) (hy : Fin' y) : Fin' (x - y) := by
  obtain ⟨a, rfl⟩ := hx; obtain ⟨b, rfl⟩ := hy; exact ⟨a - b, by norm_cast⟩

theorem Fin'.mul {x y : EReal} (hx : Fin' x) (hy : Fin' y) : Fin' (x * y) := by
  obtain ⟨a, rfl⟩ := hx; obtain ⟨b, rfl⟩ := hy; exact ⟨a * b, by norm_cast⟩

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_prod {ι : Type*} (s : Finset ι) (f : ι → ℝ) : ((∏ i ∈ s, f i : ℝ) : EReal) = ∏ i ∈ s, (f i : EReal) := by
  classical
  induction s using Finset.induction_on with
  | empty => simp
  | insert a s h ih => rw [Finset.prod_insert h, Finset.prod_insert h, EReal.coe_mul, ih]

theorem Fin'.sum {ι : Type*} (s : Finset ι) {f : ι → EReal} (h : ∀ i, Fin' (f i)) : Fin' (∑ i ∈ s, f i) := by
  choose g hg using h
  exact ⟨∑ i ∈ s, g i, by rw [coe_sum]; exact Finset.sum_congr rfl fun i _ => hg i⟩

theorem Fin'.prod {ι : Type*} (s : Finset ι) {f : ι → EReal} (h : ∀ i, Fin' (f i)) : Fin' (∏ i ∈ s, f i) := by
  choose g hg using h
  exact ⟨∏ i ∈ s, g i, by rw [coe_prod]; exact Finset.prod_congr rfl fun i _ => hg i⟩

theorem Fin'.lin {n m : ℕ} {x : Fin n → EReal} {W : Fin m → Fin n → EReal} {b : Fin m → EReal} (hx : ∀ d, Fin' (x d))
    (hW : ∀ k d, Fin' (W k d)) (hb : ∀ k, Fin' (b k)) (k : Fin m) : Fin' (lin x W b k) :=
  (Fin'.sum _ fun d => (hx d).mul (hW k d)).add (hb k)

/-- The two scores are equal. -/
theorem score_eq {wi : Fin 64 → EReal} {W : Fin 64 → Fin 128 → EReal} {b : Fin 64 → EReal} {row : Fin 128 → EReal}
    (hwi : ∀ h, Fin' (wi h)) (hW : ∀ h k, Fin' (W h k)) (hb : ∀ h, Fin' (b h)) (hr : ∀ k, Fin' (row k)) :
    score wi W b row = score' wi W b row := by
  choose wi' hwi using hwi
  choose W' hW using hW
  choose b' hb using hb
  choose r' hr using hr
  unfold score score' lin
  simp only [hwi, hW, hb, hr, ← EReal.coe_mul, ← coe_sum, ← EReal.coe_add]
  congr 1
  simp only [mul_add, Finset.sum_add_distrib, Finset.mul_sum, Finset.sum_mul]
  rw [Finset.sum_comm]
  congr 1
  exact Finset.sum_congr rfl fun k _ => Finset.sum_congr rfl fun h _ => by ring

/-- The two read scores are equal. -/
theorem rescore_eq {rq : Fin 64 → EReal} {W : Fin 64 → Fin 128 → EReal} {b : Fin 64 → EReal} {row : Fin 128 → EReal}
    {w : EReal} {e : Fin 128 → EReal} (hrq : ∀ h, Fin' (rq h)) (hW : ∀ h k, Fin' (W h k)) (hb : ∀ h, Fin' (b h))
    (hr : ∀ k, Fin' (row k)) (hw : Fin' w) (he : ∀ k, Fin' (e k)) :
    score rq W b (fun k => row k + w * e k) = rescore' rq W b row w e := by
  rw [score_eq hrq hW hb fun k => (hr k).add (hw.mul (he k))]
  choose rq' hrq using hrq
  choose W' hW using hW
  choose b' hb using hb
  choose r' hr using hr
  choose e' he using he
  obtain ⟨w', rfl⟩ := hw
  unfold score' rescore'
  simp only [hrq, hW, hb, hr, he, ← EReal.coe_mul, ← coe_sum, ← EReal.coe_add]
  congr 2
  rw [Finset.mul_sum, ← Finset.sum_add_distrib]
  exact Finset.sum_congr rfl fun k _ => by ring

theorem top_fin {n : ℕ} {x : Fin n → EReal} (hn : 0 < n) (hx : ∀ i, Fin' (x i)) : Fin' (top x) := by
  have h : ∀ s : Finset (Fin n), s.Nonempty → Fin' (s.fold max ⊥ x) := by
    intro s hs
    induction s using Finset.induction_on with
    | empty => exact absurd hs Finset.not_nonempty_empty
    | insert a s ha ih =>
      rw [Finset.fold_insert ha]
      rcases s.eq_empty_or_nonempty with rfl | h
      · simpa using hx a
      · rcases max_choice (x a) (s.fold max ⊥ x) with h' | h' <;> rw [h']
        exacts [hx a, ih h]
  exact h _ ⟨⟨0, hn⟩, Finset.mem_univ _⟩

theorem softmax_fin {n : ℕ} {x : Fin n → EReal} (hn : 0 < n) (hx : ∀ i, Fin' (x i)) (i : Fin n) : Fin' (softmax x i) := by
  obtain ⟨t, ht⟩ := top_fin hn hx
  choose y hy using hx
  have hexp : ∀ j, Ideal.exp (x j - top x) = ((Real.exp (y j - t) : ℝ) : EReal) := fun j => by
    rw [hy j, ht, ← EReal.coe_sub]; rfl
  unfold softmax
  simp only [hexp, ← coe_sum]
  have hs : (∑ j : Fin n, Real.exp (y j - t)) ≠ 0 :=
    (Finset.sum_pos (fun j _ => Real.exp_pos _) ⟨⟨0, hn⟩, Finset.mem_univ _⟩).ne'
  refine ⟨Real.exp (y i - t) / ∑ j : Fin n, Real.exp (y j - t), ?_⟩
  unfold Ideal.div
  simp [EReal.coe_div, hs]
  rfl

theorem alloc_fin {u : Fin 2048 → EReal} (hu : ∀ i, Fin' (u i)) (p : Fin 2048) : Fin' (alloc u p) :=
  (Fin'.sub ⟨1, by norm_num⟩ (hu p)).mul (Fin'.prod _ hu)

theorem ieee_fin (b : BitVec 32) (h : (b.extractLsb' 23 8).toNat ≠ 255) : Fin' (Ideal.ofBits .f32 b) := by
  show Fin' (Ideal.ieee 8 23 b)
  unfold Ideal.ieee
  dsimp only
  rw [if_neg (show ¬ (b.extractLsb' 23 8).toNat = 2 ^ 8 - 1 from h)]
  split
  exacts [⟨_, rfl⟩, ⟨_, rfl⟩]

theorem bits_fin₁ : Fin' (Ideal.ofBits .f32 0x3727C5AC#32) := by
  exact ieee_fin _ (by decide)
theorem bits_fin₂ : Fin' (Ideal.ofBits .f32 0x3F7FFF58#32) := by
  exact ieee_fin _ (by decide)
theorem bits_fin₃ : Fin' (Ideal.ofBits .f32 0x3F000000#32) := by
  exact ieee_fin _ (by decide)

theorem weight_fin {s u : Fin 2048 → EReal} (hh : Fin' (Ideal.ofBits .f32 0x3F000000#32)) (hs : ∀ i, Fin' (s i))
    (hu : ∀ i, Fin' (u i)) (i : Fin 2048) : Fin' (weight s u i) :=
  ((softmax_fin (by norm_num) hs i).add (alloc_fin hu i)).mul hh

/-- The arguments, as functions of their indices. -/
structure Data where
  st : Fin 3 → Fin 128 → Fin 2048 → EReal
  fg : Fin 128 → EReal
  inp : Fin 128 → Fin 512 → EReal
  qry : Fin 128 → Fin 512 → EReal
  mem : Fin 128 → Fin 2048 → Fin 128 → EReal
  Iw : Fin 128 → Fin 512 → EReal
  Ib : Fin 128 → EReal
  W1 : Fin 64 → Fin 128 → EReal
  b1 : Fin 64 → EReal
  W2 : Fin 64 → Fin 128 → EReal
  b2 : Fin 64 → EReal
  R1 : Fin 64 → Fin 512 → EReal
  c1 : Fin 64 → EReal
  R2 : Fin 64 → Fin 128 → EReal
  c2 : Fin 64 → EReal
  Ow : Fin 512 → Fin 128 → EReal
  Ob : Fin 512 → EReal

namespace Data
variable (D : Data) (b : Fin 128)

/-- The embedded input, the write key and the read key. -/
def e : Fin 128 → EReal := lin (D.inp b) D.Iw D.Ib
def wi : Fin 64 → EReal := lin (D.e b) D.W1 D.b1
def rq : Fin 64 → EReal := lin (D.qry b) D.R1 D.c1
/-- The usage. -/
def u (i : Fin 2048) : EReal := Model.use (D.st 0 b i) (D.st 1 b i) (D.st 2 b i) (D.fg b)
/-- The content scores, the write weights, the new memory, the read scores, the read weights and the output: each
memory row through the layer. -/
def s (i : Fin 2048) : EReal := score (D.wi b) D.W2 D.b2 (D.mem b i)
def w : Fin 2048 → EReal := weight (D.s b) (D.u b)
def rm : Fin 2048 → Fin 128 → EReal := remem (D.mem b) (D.w b) (D.e b)
def t (i : Fin 2048) : EReal := score (D.rq b) D.R2 D.c2 (D.rm b i)
def wr : Fin 2048 → EReal := softmax (D.t b)
def y : Fin 512 → EReal := out (D.wr b) (D.rm b) D.Ow D.Ob
/-- The same, the keys through the layer. -/
def s' (i : Fin 2048) : EReal := score' (D.wi b) D.W2 D.b2 (D.mem b i)
def w' : Fin 2048 → EReal := weight (D.s' b) (D.u b)
def rm' : Fin 2048 → Fin 128 → EReal := remem (D.mem b) (D.w' b) (D.e b)
def t' (i : Fin 2048) : EReal := rescore' (D.rq b) D.R2 D.c2 (D.mem b i) (D.w' b i) (D.e b)
def wr' : Fin 2048 → EReal := softmax (D.t' b)
def y' : Fin 512 → EReal := out (D.wr' b) (D.rm' b) D.Ow D.Ob

/-- Every argument but the output layer's is finite. -/
structure Finite : Prop where
  st : ∀ k b i, Fin' (D.st k b i)
  fg : ∀ b, Fin' (D.fg b)
  inp : ∀ b k, Fin' (D.inp b k)
  qry : ∀ b k, Fin' (D.qry b k)
  mem : ∀ b i k, Fin' (D.mem b i k)
  Iw : ∀ k d, Fin' (D.Iw k d)
  Ib : ∀ k, Fin' (D.Ib k)
  W1 : ∀ k d, Fin' (D.W1 k d)
  b1 : ∀ k, Fin' (D.b1 k)
  W2 : ∀ k d, Fin' (D.W2 k d)
  b2 : ∀ k, Fin' (D.b2 k)
  R1 : ∀ k d, Fin' (D.R1 k d)
  c1 : ∀ k, Fin' (D.c1 k)
  R2 : ∀ k d, Fin' (D.R2 k d)
  c2 : ∀ k, Fin' (D.c2 k)

variable {D} (h : D.Finite)
include h

theorem Finite.e (k : Fin 128) : Fin' (D.e b k) := Fin'.lin (h.inp b) h.Iw h.Ib k
theorem Finite.wi (k : Fin 64) : Fin' (D.wi b k) := Fin'.lin (h.e b) h.W1 h.b1 k
theorem Finite.rq (k : Fin 64) : Fin' (D.rq b k) := Fin'.lin (h.qry b) h.R1 h.c1 k

theorem Finite.u (i : Fin 2048) : Fin' (D.u b i) := by
  have h0 := h.st 0 b i
  have h1 := h.st 1 b i
  have h2 := h.st 2 b i
  have hu := bits_fin₁.add (bits_fin₂.mul h2)
  exact ((hu.add h1).sub (hu.mul h1)).mul (Fin'.sub ⟨1, by norm_num⟩ ((h.fg b).mul h0))

theorem s_eq : D.s b = D.s' b := funext fun i => score_eq (h.wi b) h.W2 h.b2 (h.mem b i)

theorem w_eq : D.w b = D.w' b := by unfold w w'; rw [s_eq b h]

theorem rm_eq : D.rm b = D.rm' b := by unfold rm rm'; rw [w_eq b h]

theorem Finite.s (i : Fin 2048) : Fin' (D.s b i) :=
  Fin'.sum Finset.univ fun k => (h.wi b k).mul (Fin'.lin (h.mem b i) h.W2 h.b2 k)

theorem Finite.w (i : Fin 2048) : Fin' (D.w b i) := weight_fin bits_fin₃ (h.s b) (h.u b) i

theorem t_eq : D.t b = D.t' b := by
  funext i
  unfold t t'
  rw [← w_eq b h]
  exact rescore_eq (h.rq b) h.R2 h.c2 (h.mem b i) (h.w b i) (h.e b)

theorem wr_eq : D.wr b = D.wr' b := by unfold wr wr'; rw [t_eq b h]

theorem y_eq : D.y b = D.y' b := by unfold y y'; rw [wr_eq b h, rm_eq b h]

end Data

end Cert.Model

end
-- ==== Proof.RefSide.lean ====
/- What the reference computes before its loop, entry by entry. -/
module

public import proofs.«01_k».proof.Proof.RefRun
public import proofs.«01_k».proof.Proof.Model
public import Idealize.ShloMosaic.Lib.Pointwise
public import Idealize.ShloMosaic.Lib.Pipeline.Value
public import Idealize.ShloMosaic.Lib.IdealHost

@[expose] public section

set_option maxRecDepth 20000

noncomputable section

namespace Cert.Ref

open Cert.ReferenceIdeal Cert.ReferenceIdeal.Gen Cert.ReferenceIdeal.Value Idealize.ShloMosaic Idealize.ShloMosaic.TcCoe
open Idealize.ShloMosaic.StableHlo Cert.Sort Cert.Lanes Cert.Model

variable (m : (ℓ : Loc nD τ sig) → Buf (Elt Ideal) ℓ) (c : Dev nD)

/-- The arguments at launch. -/
def data : Data where
  st k b i := (m ((c : Thread nD τ).loc main_arg0) : S3x128x2048.Idx → EReal) (ix3 k b i)
  fg b := (m ((c : Thread nD τ).loc main_arg1) : S128x1.Idx → EReal) (ix2 b 0)
  inp b k := (m ((c : Thread nD τ).loc main_arg2) : S128x1x512.Idx → EReal) (ix3 b 0 k)
  qry b k := (m ((c : Thread nD τ).loc main_arg3) : S128x1x512.Idx → EReal) (ix3 b 0 k)
  mem b i k := (m ((c : Thread nD τ).loc main_arg4) : S128x2048x128.Idx → EReal) (ix3 b i k)
  Iw k d := (m ((c : Thread nD τ).loc main_arg5) : S128x512.Idx → EReal) (ix2 k d)
  Ib k := (m ((c : Thread nD τ).loc main_arg6) : S128.Idx → EReal) (ix1 k)
  W1 k d := (m ((c : Thread nD τ).loc main_arg7) : S64x128.Idx → EReal) (ix2 k d)
  b1 k := (m ((c : Thread nD τ).loc main_arg8) : S64.Idx → EReal) (ix1 k)
  W2 k d := (m ((c : Thread nD τ).loc main_arg9) : S64x128.Idx → EReal) (ix2 k d)
  b2 k := (m ((c : Thread nD τ).loc main_arg10) : S64.Idx → EReal) (ix1 k)
  R1 k d := (m ((c : Thread nD τ).loc main_arg11) : S64x512.Idx → EReal) (ix2 k d)
  c1 k := (m ((c : Thread nD τ).loc main_arg12) : S64.Idx → EReal) (ix1 k)
  R2 k d := (m ((c : Thread nD τ).loc main_arg13) : S64x128.Idx → EReal) (ix2 k d)
  c2 k := (m ((c : Thread nD τ).loc main_arg14) : S64.Idx → EReal) (ix1 k)
  Ow k d := (m ((c : Thread nD τ).loc main_arg15) : S512x128.Idx → EReal) (ix2 k d)
  Ob k := (m ((c : Thread nD τ).loc main_arg16) : S512.Idx → EReal) (ix1 k)

/-- The first stretch's contents. -/
abbrev A : Valuation τ sig (Elt Ideal) := after hostOps0 (fun b => m (c, b))

theorem e_at (b : Fin 128) (k : Fin 128) : (A m c (Proc.devRef .tc main_v10) : S128x1x128.Idx → EReal) (ix3 b 0 k) = (data m c).e b k := by
  after_reads_simp
  simp only [pointwise, zero_add]
  rfl

theorem u_at (b : Fin 128) (i : Fin 2048) : (A m c (Proc.devRef .tc main_v44) : S128x2048.Idx → EReal) (ix2 b i) = (data m c).u b i := by
  after_reads_simp
  simp only [pointwise]
  have h0 (k : Fin 3) (h1 h2) : (ix3 k ⟨0 + b.val, h1⟩ ⟨0 + i.val, h2⟩ : S3x128x2048.Idx) = ix3 k b i := by
    congr 1 <;> exact Fin.ext (zero_add _)
  simp only [show (![0, 0, 0] : Fin 3 → ℕ) 1 = 0 from rfl, show (![0, 0, 0] : Fin 3 → ℕ) 2 = 0 from rfl,
    show (![1, 0, 0] : Fin 3 → ℕ) 1 = 0 from rfl, show (![1, 0, 0] : Fin 3 → ℕ) 2 = 0 from rfl,
    show (![2, 0, 0] : Fin 3 → ℕ) 1 = 0 from rfl, show (![2, 0, 0] : Fin 3 → ℕ) 2 = 0 from rfl, h0]
  rfl

theorem ofBits_bot : Ideal.ofBits .f32 0xFF800000#32 = ⊥ := by
  simp [Ideal.ofBits, Ideal.ieee]

/-- The softmax along the last axis. -/
def soft (x : FVec Ideal S128x1x2048 .f32) : FVec Ideal S128x1x2048 .f32 :=
  let m := broadcastInDim S128x1x2048 ![0, 1, 2] bcast_S128x1x1_S128x1x2048_0_1_2
    (broadcastInDim S128x1x1 ![0, 1] bcast_S128x1_S128x1x1_0_1
      (maximumf (broadcastInDim S128x1 ![] bcast_S_S128x1 (constant S_ .f32 0xFF800000#32))
        (Host.reduce FloatOps.maximumf x (constant S_ .f32 0xFF800000#32) reducesTo_S128x1x2048_S128x1_d2 h_S_)))
  Host.divf (Host.exp (subf x m)) (broadcastInDim S128x1x2048 ![0, 1, 2] bcast_S128x1x1_S128x1x2048_0_1_2
    (broadcastInDim S128x1x1 ![0, 1] bcast_S128x1_S128x1x1_0_1
      (Host.reduceAdd (Host.exp (subf x m)) (constant S_ .f32 0x00000000#32) reducesTo_S128x1x2048_S128x1_d2 h_S_)))

theorem soft_at (x : FVec Ideal S128x1x2048 .f32) (b : Fin 128) (i : Fin 2048) :
    soft x (ix3 b 0 i) = softmax (fun j => x (ix3 b 0 j)) i := by
  unfold soft
  simp only [pointwise]
  rw [ofBits_bot]
  simp only [zero_add, max_bot_left]
  rfl

theorem wi_at (b : Fin 128) (h : Fin 64) : (A m c (Proc.devRef .tc main_v15) : S128x1x64.Idx → EReal) (ix3 b 0 h) = (data m c).wi b h := by
  after_reads_simp
  simp only [pointwise, zero_add]
  rfl

theorem s_at (b : Fin 128) (i : Fin 2048) : (A m c (Proc.devRef .tc main_v21) : S128x1x2048.Idx → EReal) (ix3 b 0 i) = (data m c).s b i := by
  after_reads_simp
  simp only [pointwise, zero_add]
  rfl

theorem v32_eq : A m c (Proc.devRef .tc main_v32) = soft (A m c (Proc.devRef .tc main_v21)) := by
  after_reads_simp
  rfl

end Cert.Ref

end
-- ==== Proof.RefTail.lean ====
/- What the reference computes after its loop, from the allocations, entry by entry. -/
module

public import proofs.«01_k».proof.Proof.RefSide

@[expose] public section

set_option maxRecDepth 20000

noncomputable section

namespace Cert.Ref

open Cert.ReferenceIdeal Cert.ReferenceIdeal.Gen Cert.ReferenceIdeal.Value Idealize.ShloMosaic Idealize.ShloMosaic.TcCoe
open Idealize.ShloMosaic.StableHlo Cert.Sort Cert.Lanes Cert.Model

variable (m : (ℓ : Loc nD τ sig) → Buf (Elt Ideal) ℓ) (c : Dev nD)

/-- The contents before the last stretch. -/
def T : Valuation τ sig (Elt Ideal) := after hostOps0_6 (after hostOps0_5 (after hostOps0_4 (exitContents m c)))

/-- A buffer the stretches between do not write. -/
theorem T_keep (r : Ref sig .tc) (h : r ∉ (hostOps0_1_W ++ hostOps0_2_W ++ hostOps0_3_W) ++ loop_W ++ (after4_W ++ after5_W ++ after6_W)) :
    T m c (Proc.devRef .tc r) = A m c (Proc.devRef .tc r) := by
  rw [List.mem_append, List.mem_append (t := loop_W), not_or, not_or] at h
  obtain ⟨⟨h1, h2⟩, h3⟩ := h
  simp only [List.mem_append, not_or] at h1 h3
  unfold T
  rw [after_of_writes_sub _ _ after6_writes h3.2, after_of_writes_sub _ _ after5_writes h3.1.2,
    after_of_writes_sub _ _ after4_writes h3.1.1, exit_keep m c r h2]
  simp only [entryContents, afterL_cons, afterL_nil]
  rw [after_of_writes_sub _ _ hostOps0_3_writes h1.2, after_of_writes_sub _ _ hostOps0_2_writes h1.1.2,
    after_of_writes_sub _ _ hostOps0_1_writes h1.1.1]

/-- An argument there. -/
theorem T_arg (r : Ref sig .tc) (h : r ∉ pre_W ++ loop_W ++ post_W) : T m c (Proc.devRef .tc r) = m (c.tc.loc r) := by
  rw [← final_keep m c r h, final_eq]
  simp only [List.mem_append (s := _ ++ _) (t := post_W), not_or, post_W, List.mem_append (t := after7_W)] at h
  exact (after_of_writes_sub _ _ after7_writes h.2.2).symm

theorem T_v10 (b : Fin 128) (k : Fin 128) : (T m c (Proc.devRef .tc main_v10) : S128x1x128.Idx → EReal) (ix3 b 0 k) = (data m c).e b k := by
  rw [T_keep m c _ (by decide +kernel), e_at]

theorem T_v32 (b : Fin 128) (i : Fin 2048) :
    (T m c (Proc.devRef .tc main_v32) : S128x1x2048.Idx → EReal) (ix3 b 0 i) = softmax ((data m c).s b) i := by
  rw [T_keep m c _ (by decide +kernel), v32_eq, soft_at]
  exact congrArg (softmax · i) (funext fun j => s_at m c b j)

theorem T_v44 : T m c (Proc.devRef .tc main_v44) = A m c (Proc.devRef .tc main_v44) :=
  T_keep m c _ (by decide +kernel)

/-- The last stretch's contents. -/
abbrev Z (V : Valuation τ sig (Elt Ideal)) : Valuation τ sig (Elt Ideal) := after hostOps0_7 V

section Words

/-- An entry of an array. -/
abbrev ent {S : Shape} (x : S.Idx → EReal) (i : S.Idx) : EReal := x i

variable (V : Valuation τ sig (Elt Ideal))

theorem v60_at (b : Fin 128) (i : Fin 2048) : ent (S := S128x1x2048) (Z V (Proc.devRef .tc main_v60)) (ix3 b 0 i)
    = (ent (S := S128x1x2048) (V (Proc.devRef .tc main_v32)) (ix3 b 0 i) + ent (S := S128x2048) (V (Proc.devRef .tc main_v56)) (ix2 b i))
      * Ideal.ofBits .f32 0x3F000000#32 := by
  after_reads_simp
  simp only [pointwise]
  rfl

theorem v66_at (b : Fin 128) (i : Fin 2048) : ent (S := S128x2048) (Z V (Proc.devRef .tc main_v66)) (ix2 b i)
    = ent (S := S128x1x2048) (Z V (Proc.devRef .tc main_v60)) (ix3 b 0 i) := by
  after_reads_simp
  simp only [pointwise]
  rfl

theorem v98_at (b : Fin 128) (i : Fin 2048) : ent (S := S128x2048) (Z V (Proc.devRef .tc main_v98)) (ix2 b i)
    = ent (S := S128x1x2048) (Z V (Proc.devRef .tc main_v88)) (ix3 b 0 i) := by
  have h : (Z V (Proc.devRef .tc main_v98) : S128x2048.Idx → EReal) =
      shapeCast S128x2048 (Z V (Proc.devRef .tc main_v88) : S128x1x2048.Idx → EReal) shapeCasts_S128x1x2048_S128x2048 := by
    after_reads_simp
    rfl
  rw [h]
  simp only [pointwise]

theorem v65_at (b : Fin 128) (i : Fin 2048) (k : Fin 128) : ent (S := S128x2048x128) (Z V (Proc.devRef .tc main_v65)) (ix3 b i k)
    = ent (S := S128x2048x128) (V (Proc.devRef .tc main_arg4)) (ix3 b i k)
      + ent (S := S128x1x2048) (Z V (Proc.devRef .tc main_v60)) (ix3 b 0 i) * ent (S := S128x1x128) (V (Proc.devRef .tc main_v10)) (ix3 b 0 k) := by
  after_reads_simp
  simp only [pointwise]
  rfl

/-- The scores of a memory against a query. -/
def scoresH (x : FVec Ideal S128x2048x128 .f32) (q : FVec Ideal S128x1x512 .f32) (w1 : FVec Ideal S64x512 .f32) (b1 : FVec Ideal S64 .f32)
    (w2 : FVec Ideal S64x128 .f32) (b2 : FVec Ideal S64 .f32) : FVec Ideal S128x1x2048 .f32 :=
  Host.dotGeneral dot_S128x1x64_S128x2048x64_S128x1x2048_2_2_1_1_0_0 none
    (addf (Host.dotGeneral dot_S128x1x512_S512x64_S128x1x64_2_0_01_1_n_n none q (transpose S512x64 [1, 0] w1 transposes_S64x512_S512x64_1_0))
      (broadcastInDim S128x1x64 ![0, 1, 2] bcast_S1x1x64_S128x1x64_0_1_2 (broadcastInDim S1x1x64 ![2] bcast_S64_S1x1x64_2 b1)))
    (addf (Host.dotGeneral dot_S128x2048x128_S128x64_S128x2048x64_2_0_01_1_n_n none x (transpose S128x64 [1, 0] w2 transposes_S64x128_S128x64_1_0))
      (broadcastInDim S128x2048x64 ![0, 1, 2] bcast_S1x1x64_S128x2048x64_0_1_2 (broadcastInDim S1x1x64 ![2] bcast_S64_S1x1x64_2 b2)))

theorem scoresH_at (x : FVec Ideal S128x2048x128 .f32) (q : FVec Ideal S128x1x512 .f32) (w1 : FVec Ideal S64x512 .f32) (b1 : FVec Ideal S64 .f32)
    (w2 : FVec Ideal S64x128 .f32) (b2 : FVec Ideal S64 .f32) (b : Fin 128) (i : Fin 2048) :
    scoresH x q w1 b1 w2 b2 (ix3 b 0 i) =
      score (lin (fun k => q (ix3 b 0 k)) (fun k d => w1 (ix2 k d)) (fun k => b1 (ix1 k))) (fun k d => w2 (ix2 k d)) (fun k => b2 (ix1 k))
        (fun k => x (ix3 b i k)) := by
  unfold scoresH
  simp only [pointwise, zero_add]
  rfl

theorem v77_eq : Z V (Proc.devRef .tc main_v77) = scoresH (Z V (Proc.devRef .tc main_v65)) (V (Proc.devRef .tc main_arg3))
    (V (Proc.devRef .tc main_arg11)) (V (Proc.devRef .tc main_arg12)) (V (Proc.devRef .tc main_arg13)) (V (Proc.devRef .tc main_arg14)) := by
  after_reads_simp
  rfl

theorem v88_eq : Z V (Proc.devRef .tc main_v88) = soft (Z V (Proc.devRef .tc main_v77)) := by
  after_reads_simp
  rfl

/-- The weighted memory through the output layer. -/
def outH (x : FVec Ideal S128x1x2048 .f32) (y : FVec Ideal S128x2048x128 .f32) (w : FVec Ideal S512x128 .f32) (b : FVec Ideal S512 .f32) :
    FVec Ideal S128x512 .f32 :=
  addf (Host.dotGeneral dot_S128x128_S128x512_S128x512_1_0_0_1_n_n none
      (Host.reduceAdd (mulf (broadcastInDim S128x2048x128 ![0, 1, 2] bcast_S128x2048x1_S128x2048x128_0_1_2
        (transpose S128x2048x1 [0, 2, 1] x transposes_S128x1x2048_S128x2048x1_0_2_1)) y) (constant S_ .f32 0x00000000#32)
        reducesTo_S128x2048x128_S128x128_d1 h_S_)
      (transpose S128x512 [1, 0] w transposes_S512x128_S128x512_1_0))
    (broadcastInDim S128x512 ![0, 1] bcast_S1x512_S128x512_0_1 (broadcastInDim S1x512 ![1] bcast_S512_S1x512_1 b))

theorem outH_at (x : FVec Ideal S128x1x2048 .f32) (y : FVec Ideal S128x2048x128 .f32) (w : FVec Ideal S512x128 .f32) (v : FVec Ideal S512 .f32)
    (b : Fin 128) (o : Fin 512) : outH x y w v (ix2 b o) =
      out (fun i => x (ix3 b 0 i)) (fun i k => y (ix3 b i k)) (fun k d => w (ix2 k d)) (fun k => v (ix1 k)) o := by
  unfold outH
  simp only [pointwise, zero_add]
  rfl

theorem v97_eq : Z V (Proc.devRef .tc main_v97) = outH (Z V (Proc.devRef .tc main_v88)) (Z V (Proc.devRef .tc main_v65))
    (V (Proc.devRef .tc main_arg15)) (V (Proc.devRef .tc main_arg16)) := by
  after_reads_simp
  rfl

end Words

end Cert.Ref

end
-- ==== Proof.RefLoop.lean ====
/- The reference's loop: the running products of the rows it reads. -/
module

public import proofs.«01_k».proof.Proof.RefSide
public import Idealize.ShloMosaic.Lib.WordCmp
public import Idealize.ShloMosaic.Lib.WordArith

@[expose] public section

set_option maxRecDepth 20000

noncomputable section

namespace Cert.Ref

open Cert.ReferenceIdeal Cert.ReferenceIdeal.Gen Cert.ReferenceIdeal.Value Idealize.ShloMosaic Idealize.ShloMosaic.TcCoe
open Idealize.ShloMosaic.StableHlo

/-- The counter's word. -/
theorem iv_eq (k : ℕ) (h : k < 2 ^ 31) : (Scf.iv 0#32 1#32 k).toInt = k := by
  rw [Scf.iv, BitVec.zero_add, BitVec.mul_one, WordArith.toInt_ofNat_small k h]

theorem start_eq (w : (⟨S_, .i32⟩ : BufTy).Contents (Elt Ideal)) (k : ℕ) (hk : k < 2048) (hw : w = fun _ => Scf.iv 0#32 1#32 k) (a : Fin 2) :
    (((![w, constantI S_ 32 0#32] : Fin 2 → (⟨S_, .i32⟩ : BufTy).Contents (Elt Ideal))) a (Shape.Idx.first h_S_)).toInt
      = ((![k, 0] : Fin 2 → ℕ) a : ℤ) := by
  subst hw
  match a with
  | ⟨0, _⟩ => exact iv_eq k (by omega)
  | ⟨1, _⟩ => rfl

theorem fits_row (k : ℕ) (hk : k < 2048) : S2048x128.Slices ![k, 0] S1x128 := by
  refine ⟨rfl, fun a => ?_⟩
  match a with
  | ⟨0, _⟩ => show k + 1 ≤ 2048; omega
  | ⟨1, _⟩ => show 0 + 128 ≤ 128; omega

/-- The row a trip reads. -/
theorem row_at (V : Valuation τ sig (Elt Ideal)) (k : Fin 2048)
    (hw : V (Proc.devRef .tc main_v50_1) = fun _ => Scf.iv 0#32 1#32 k.val) (b : Fin 128) :
    (res_main_while0b_v99 V : S128.Idx → EReal) (ix1 b) = (V (Proc.devRef .tc main_v50_0) : S2048x128.Idx → EReal) (ix2 k b) := by
  unfold res_main_while0b_v99
  rw [WordCmp.dynamicSlice_eq_extract S1x128 _ _ _ ![k.val, 0] (fits_row k.val k.isLt) (start_eq _ k.val k.isLt hw)]
  simp only [pointwise]
  have h (h1 h2) : (ix2 ⟨k.val + 0, h1⟩ ⟨0 + b.val, h2⟩ : S2048x128.Idx) = ix2 k b := by
    congr 1; exact Fin.ext (zero_add _)
  exact congrArg (V (Proc.devRef .tc main_v50_0)) (h _ _)

/-- A row written. -/
theorem write_at (x : FVec Ideal S2048x128 .f32) (r : FVec Ideal S128 .f32) (w : (⟨S_, .i32⟩ : BufTy).Contents (Elt Ideal)) (k : Fin 2048)
    (hw : w = fun _ => Scf.iv 0#32 1#32 k.val) (j : Fin 2048) (b : Fin 128) :
    Host.dynamicUpdateSlice x (broadcastInDim S1x128 ![1] bcast_S128_S1x128_1 r)
      (fun a => (((![w, constantI S_ 32 0#32] : Fin 2 → (⟨S_, .i32⟩ : BufTy).Contents (Elt Ideal))) a (Shape.Idx.first h_S_)).toInt)
      updateFits_S2048x128_S1x128 (ix2 j b) = if j = k then r (ix1 b) else x (ix2 j b) := by
  rw [WordCmp.dynamicUpdateSlice_eq_update _ _ _ _ ![k.val, 0] (fits_row k.val k.isLt) (start_eq _ k.val k.isLt hw)]
  unfold updateSlice
  by_cases h : j = k
  · rw [if_pos h, dif_pos]
    · refine (congrArg (broadcastInDim S1x128 ![1] bcast_S128_S1x128_1 r) (?_ : _ = (ix2 0 b : S1x128.Idx))).trans ?_
      · funext a
        match a with
        | ⟨0, _⟩ => exact Fin.ext (by subst h; exact Nat.sub_self _)
        | ⟨1, _⟩ => rfl
      · simp only [pointwise]
        rfl
    · intro a
      match a with
      | ⟨0, _⟩ => exact ⟨(congrArg Fin.val h).ge, (congrArg Fin.val h).le.trans_lt (Nat.lt_succ_self _)⟩
      | ⟨1, _⟩ => exact ⟨Nat.zero_le _, (Nat.zero_add 128).symm ▸ b.isLt⟩
  · rw [if_neg h, dif_neg]
    intro hin
    have h0 : k.val ≤ j.val ∧ j.val < k.val + 1 := hin 0
    exact h (Fin.ext (by omega))

variable (m : (ℓ : Loc nD τ sig) → Buf (Elt Ideal) ℓ) (c : Dev nD)

/-- The rows the loop reads. -/
def rows : S2048x128.Idx → EReal := entryContents preI m c (Proc.devRef .tc main_v50_0)

/-- The product of the first `k` rows. -/
def prod (k : ℕ) (b : Fin 128) : EReal := ∏ j ∈ Finset.univ.filter (fun j : Fin 2048 => j.val < k), rows m c (ix2 j b)

theorem prod_succ (k : Fin 2048) (b : Fin 128) : prod m c (k.val + 1) b = prod m c k.val b * rows m c (ix2 k b) := by
  unfold prod
  have h : (Finset.univ.filter fun j : Fin 2048 => j.val < k.val + 1) = insert k (Finset.univ.filter fun j : Fin 2048 => j.val < k.val) := by
    ext j
    simp only [Finset.mem_filter, Finset.mem_univ, true_and, Finset.mem_insert, Fin.ext_iff]
    omega
  rw [h, Finset.prod_insert (by simp), mul_comm]

theorem cond_keep (V : Valuation τ sig (Elt Ideal)) (r : Ref sig .tc) (h : r ∉ condOps_W) :
    after condOps V (Proc.devRef .tc r) = V (Proc.devRef .tc r) := after_of_writes_sub _ _ condOps_writes h

theorem loop_rows : ∀ k, atK m k c (Proc.devRef .tc main_v50_0) = rows m c
  | 0 => rfl
  | k + 1 => by
    rw [show atK m (k + 1) c = afterL bodyI (after condOps (atK m k c)) from rfl, trip_main_v50_0, cond_keep _ _ (by decide)]
    exact loop_rows k

theorem entry_one (b : Fin 128) : (entryContents preI m c (Proc.devRef .tc main_v50_2) : S128.Idx → EReal) (ix1 b) = (1 : EReal) := by
  simp only [entryContents, afterL_cons, afterL_nil]
  generalize after (hostOps0_2 (F := Ideal)) _ = V
  after_reads_simp
  exact Ideal.ofBits_one_f32

theorem loop_prod : ∀ k, k ≤ 2048 → ∀ b : Fin 128, (atK m k c (Proc.devRef .tc main_v50_2) : S128.Idx → EReal) (ix1 b) = prod m c k b
  | 0, _, b => by
    rw [show atK m 0 c = entryContents preI m c from rfl, entry_one]
    unfold prod
    simp
  | k + 1, hk, b => by
    rw [show atK m (k + 1) c = afterL bodyI (after condOps (atK m k c)) from rfl, trip_main_v50_2]
    have h := row_at (after condOps (atK m k c)) ⟨k, by omega⟩ (by rw [cond_keep _ _ (by decide)]; exact atK_ctr m c k) b
    rw [cond_keep _ main_v50_0 (by decide), loop_rows] at h
    have h2 := loop_prod k (by omega) b
    rw [prod_succ m c ⟨k, by omega⟩, ← h, ← h2]
    rw [cond_keep _ main_v50_2 (by decide)]
    rfl

theorem loop_out : ∀ k, k ≤ 2048 → ∀ (j : Fin 2048) (b : Fin 128), j.val < k →
    (atK m k c (Proc.devRef .tc main_v50_3) : S2048x128.Idx → EReal) (ix2 j b) = prod m c (j.val + 1) b
  | 0, _, j, b, h => absurd h (Nat.not_lt_zero _)
  | k + 1, hk, j, b, hj => by
    rw [show atK m (k + 1) c = afterL bodyI (after condOps (atK m k c)) from rfl, trip_main_v50_3]
    have hw : after condOps (atK m k c) (Proc.devRef .tc main_v50_1) = fun _ => Scf.iv 0#32 1#32 k := by
      rw [cond_keep _ _ (by decide)]; exact atK_ctr m c k
    refine (write_at _ _ _ ⟨k, by omega⟩ hw j b).trans ?_
    by_cases h : j = ⟨k, by omega⟩
    · rw [if_pos h]
      have h1 := row_at (after condOps (atK m k c)) ⟨k, by omega⟩ hw b
      rw [cond_keep _ main_v50_0 (by decide), loop_rows] at h1
      have h2 := loop_prod m c k (by omega) b
      rw [h, prod_succ m c ⟨k, by omega⟩, ← h1, ← h2]
      rw [cond_keep _ main_v50_2 (by decide)]
      rfl
    · rw [if_neg h]
      have hlt : j.val < k := by
        have : j.val ≠ k := fun e => h (Fin.ext e)
        omega
      rw [cond_keep _ main_v50_3 (by decide)]
      exact loop_out k (by omega) j b hlt

/-- The running products after the loop. -/
theorem exit_out (j : Fin 2048) (b : Fin 128) :
    (exitContents m c (Proc.devRef .tc main_v50_3) : S2048x128.Idx → EReal) (ix2 j b) = prod m c (j.val + 1) b := by
  unfold exitContents
  rw [cond_keep _ _ (by decide)]
  exact loop_out m c 2048 le_rfl j b j.isLt

end Cert.Ref

end
-- ==== Proof.RefOrder.lean ====
/- The stable sort of a row with its positions: the order by value and then by position, and what sorting the positions
   again does. -/
module

public import Idealize.ShloMosaic.Lib.SortFacts
public import Mathlib.Data.Prod.Lex
public import Mathlib.Algebra.BigOperators.Group.Finset.Basic
public import Mathlib.Order.Fin.Basic

@[expose] public section

namespace Cert.RefOrder

open Idealize.ShloMosaic

variable {α : Type*} [LinearOrder α] {n : ℕ}

/-- The value at a position with the position. -/
def key (u : Fin n → α) (k : Fin n) : α ×ₗ Fin n := toLex (u k, k)

theorem key_lt (u : Fin n → α) (a b : Fin n) : key u a < key u b ↔ u a < u b ∨ u a = u b ∧ a < b := by
  unfold key; rw [Prod.Lex.toLex_lt_toLex]

theorem insert_sorted (u : Fin n → α) {before : Fin n → Fin n → Bool} (hb : ∀ a b, before a b = decide (u a < u b)) (a : Fin n)
    (l : List (Fin n)) (h : ∀ b ∈ l, a < b) (hl : l.Pairwise fun b c => key u b < key u c) :
    (insertBefore before a l).Pairwise fun b c => key u b < key u c := by
  induction l with
  | nil => exact List.pairwise_singleton _ _
  | cons b l ih =>
    have hl' := List.pairwise_cons.mp hl
    unfold insertBefore
    rw [hb]
    by_cases hlt : u b < u a
    · rw [if_pos (decide_eq_true hlt)]
      refine List.pairwise_cons.mpr ⟨fun c hc => ?_, ih (fun c hc => h c (List.mem_cons_of_mem _ hc)) hl'.2⟩
      rcases List.mem_cons.mp ((perm_insertBefore before a l).mem_iff.mp hc) with rfl | hc'
      · exact (key_lt u _ _).mpr (.inl hlt)
      · exact hl'.1 c hc'
    · rw [if_neg (by simpa using hlt)]
      have hab : key u a < key u b := (key_lt u _ _).mpr (by
        rcases (not_lt.mp hlt).lt_or_eq with h' | h'
        · exact .inl h'
        · exact .inr ⟨h', h b (List.mem_cons_self ..)⟩)
      refine List.pairwise_cons.mpr ⟨fun c hc => ?_, hl⟩
      rcases List.mem_cons.mp hc with rfl | hc'
      · exact hab
      · exact hab.trans (hl'.1 c hc')

theorem stable_sorted (u : Fin n → α) {before : Fin n → Fin n → Bool} (hb : ∀ a b, before a b = decide (u a < u b))
    (l : List (Fin n)) (h : l.Pairwise (· < ·)) : (stableSort before l).Pairwise fun b c => key u b < key u c := by
  induction l with
  | nil => exact List.Pairwise.nil
  | cons a l ih =>
    have h' := List.pairwise_cons.mp h
    exact insert_sorted u hb a _ (fun b hb' => h'.1 b ((perm_stableSort before l).mem_iff.mp hb')) (ih h'.2)

/-- The sources of a stable sort are in increasing order by value and then position. -/
theorem sortedFrom_strictMono (u : Fin n → α) {before : Fin n → Fin n → Bool} (hb : ∀ a b, before a b = decide (u a < u b)) :
    StrictMono fun k => key u (sortedFrom before k) := by
  intro i j hij
  have hp := List.pairwise_iff_get.mp (stable_sorted u hb (List.finRange n) (List.pairwise_lt_finRange n))
  unfold sortedFrom
  exact hp (i.cast (length_sortPositions n before).symm) (j.cast (length_sortPositions n before).symm) hij

/-- A strictly increasing self-map of the positions is the identity. -/
theorem strictMono_id {f : Fin n → Fin n} (h : StrictMono f) (k : Fin n) : f k = k := by
  exact le_antisymm (h.le_id k) (h.id_le k)

/-- Sorting the sources undoes the sort. -/
theorem sorted_sources (u : Fin n → α) {before before' : Fin n → Fin n → Bool} (hb : ∀ a b, before a b = decide (u a < u b))
    (hb' : ∀ a b, before' a b = decide (sortedFrom before a < sortedFrom before b)) (p : Fin n) :
    sortedFrom before (sortedFrom before' p) = p := by
  refine strictMono_id (f := fun p => sortedFrom before (sortedFrom before' p)) (fun i j hij => ?_) p
  have h := sortedFrom_strictMono (sortedFrom before) hb' hij
  rcases (key_lt _ _ _).mp h with h | ⟨h, h2⟩
  · exact h
  · exact absurd (sortedFrom_injective before h) h2.ne

/-- The running product of the sorted values, at the place a position was sorted to. -/
theorem running_product {M : Type*} [CommMonoid M] (v : Fin n → M) (u : Fin n → α) {before before' : Fin n → Fin n → Bool}
    (hb : ∀ a b, before a b = decide (u a < u b))
    (hb' : ∀ a b, before' a b = decide (sortedFrom before a < sortedFrom before b)) (p : Fin n) :
    ∏ j ∈ Finset.univ.filter (fun j : Fin n => j ≤ sortedFrom before' p), v (sortedFrom before j) =
      ∏ j ∈ Finset.univ.filter (fun j : Fin n => key u j ≤ key u p), v j := by
  refine Finset.prod_bij (fun j _ => sortedFrom before j) (fun j hj => ?_) (fun a _ b _ h => sortedFrom_injective before h)
    (fun j hj => ?_) (fun _ _ => rfl)
  · rw [Finset.mem_filter] at hj ⊢
    refine ⟨Finset.mem_univ _, ?_⟩
    have h := (sortedFrom_strictMono u hb).monotone hj.2
    rwa [sorted_sources u hb hb' p] at h
  · obtain ⟨k, rfl⟩ := sortedFrom_surjective before j
    refine ⟨k, ?_, rfl⟩
    rw [Finset.mem_filter] at hj ⊢
    refine ⟨Finset.mem_univ _, ?_⟩
    have h := hj.2
    rw [← sorted_sources u hb hb' p] at h
    exact (sortedFrom_strictMono u hb).le_iff_le.mp h

end Cert.RefOrder
-- ==== Proof.RefTake.lean ====
/- The reference's sorts and gathers, entry by entry. -/
module

public import proofs.«01_k».proof.Proof.RefSide
public import proofs.«01_k».proof.Proof.RefOrder
public import Idealize.ShloMosaic.Lib.WordArith

@[expose] public section

set_option maxRecDepth 20000

noncomputable section

namespace Cert.Ref

open Cert.ReferenceIdeal Cert.ReferenceIdeal.Gen Cert.ReferenceIdeal.Value Idealize.ShloMosaic Idealize.ShloMosaic.TcCoe
open Idealize.ShloMosaic.StableHlo

/-- The entries of `x` at the positions `p` of the same row, a negative position counted from the end. -/
def wrapped (p : IVec S128x2048 32) : IVec S128x2048x1 32 :=
  shapeCast S128x2048x1 (select (cmpi .slt p (broadcastInDim S128x2048 ![] bcast_S_S128x2048 (constantI S_ 32 0#32)))
    (addi p (broadcastInDim S128x2048 ![] bcast_S_S128x2048 (constantI S_ 32 2048#32))) p) shapeCasts_S128x2048_S128x2048x1

/-- Which positions are in range. -/
def inRange (p : IVec S128x2048x1 32) : IVec S128x2048 1 :=
  Host.reduce IntOp.andi
    (andi (cmpi .sge p (broadcastInDim S128x2048x1 ![] bcast_S_S128x2048x1 (constantI S_ 32 0#32)))
      (cmpi .sle p (broadcastInDim S128x2048x1 ![0, 1, 2] bcast_S1x1x1_S128x2048x1_0_1_2
        (broadcastInDim S1x1x1 ![2] bcast_S1_S1x1x1_2 (constantI S1 32 2047#32)))))
    (constantI S_ 1 1#1) reducesTo_S128x2048x1_S128x2048_d2 h_S_

/-- The entries of `x` at the positions `p` of the same row. -/
def taken (x : FVec Ideal S128x2048 .f32) (p : IVec S128x2048 32) : FVec Ideal S128x2048 .f32 :=
  select (inRange (wrapped p)) (Host.gather gather_S128x2048_S128x2048x1_S128x2048_n_1_0_0_1_2_11 x (wrapped p))
    (broadcastInDim S128x2048 ![] bcast_S_S128x2048 (constant S_ .f32 0x7FC00000#32))

section Reads

attribute [local irreducible] Host.gather Host.reduce select cmpi addi andi shapeCast broadcastInDim constantI constant

theorem v46_eq (V : Valuation τ sig (Elt Ideal)) :
    after hostOps0_2 V (Proc.devRef .tc main_v46) = taken (V (Proc.devRef .tc main_v44)) (V (Proc.devRef .tc main_v45)) := by
  after_reads_simp
  unfold taken inRange wrapped
  rfl

theorem v56_eq (V : Valuation τ sig (Elt Ideal)) :
    after hostOps0_6 V (Proc.devRef .tc main_v56) = taken (V (Proc.devRef .tc main_v54)) (V (Proc.devRef .tc main_v55)) := by
  after_reads_simp
  unfold taken inRange wrapped
  rfl

end Reads

theorem v45_eq (V : Valuation τ sig (Elt Ideal)) :
    after hostOps0_1 V (Proc.devRef .tc main_v45) =
      (Host.sort2 S128x2048 1 (comparator_f32_i32_d1 (F := Ideal)) (V (Proc.devRef .tc main_v44)) (iotaInDim S128x2048 32 1)).2 := by
  after_reads_simp
  rfl

theorem v55_eq (V : Valuation τ sig (Elt Ideal)) :
    after hostOps0_5 V (Proc.devRef .tc main_v55) =
      (Host.sort2 S128x2048 1 comparator_i32_i32_d1 (V (Proc.devRef .tc main_v45)) (iotaInDim S128x2048 32 1)).2 := by
  after_reads_simp
  rfl

theorem wrapped_at (p : IVec S128x2048 32) (b : Fin 128) (i : Fin 2048) (k : Fin 2048) (h : p (ix2 b i) = BitVec.ofNat 32 k.val) :
    wrapped p (ix3 b i 0) = BitVec.ofNat 32 k.val := by
  unfold wrapped
  simp only [pointwise]
  rw [h]
  show Scalar.select (BitVec.ofBool ((BitVec.ofNat 32 k.val).slt 0#32)) _ _ = _
  rw [Sort.scalar_select, BitVec.slt, WordArith.toInt_ofNat_small _ (by omega), if_neg]
  simp

theorem inRange_at (p : IVec S128x2048x1 32) (b : Fin 128) (i : Fin 2048) (k : Fin 2048) (h : p (ix3 b i 0) = BitVec.ofNat 32 k.val) :
    inRange p (ix2 b i) = 1#1 := by
  unfold inRange
  simp only [pointwise]
  have hf : (fun a : Fin 1 => IntOp.andi (IntOp.cmpi .sge (p (ix3 b i a)) 0#32) (IntOp.cmpi .sle (p (ix3 b i a)) 2047#32)) = fun _ => 1#1 := by
    funext a
    obtain rfl : a = 0 := Subsingleton.elim _ _
    rw [h]
    have h0 : BitVec.sle 0#32 (BitVec.ofNat 32 k.val) = true := by
      show decide ((0 : ℤ) ≤ (BitVec.ofNat 32 k.val).toInt) = true
      rw [WordArith.toInt_ofNat_small _ (by omega)]
      exact decide_eq_true (Int.natCast_nonneg _)
    have h1 : BitVec.sle (BitVec.ofNat 32 k.val) 2047#32 = true := by
      show decide ((BitVec.ofNat 32 k.val).toInt ≤ (2047 : ℤ)) = true
      rw [WordArith.toInt_ofNat_small _ (by omega)]
      exact decide_eq_true (by omega)
    show BitVec.ofBool (BitVec.sle 0#32 (BitVec.ofNat 32 k.val)) &&& BitVec.ofBool (BitVec.sle (BitVec.ofNat 32 k.val) 2047#32) = 1#1
    rw [h0, h1]
    rfl
  refine (congrArg (fun f => Finset.fold IntOp.andi (1#1) f Finset.univ) hf).trans ?_
  rfl

theorem gather_at (x : FVec Ideal S128x2048 .f32) (p : IVec S128x2048x1 32) (b : Fin 128) (i : Fin 2048) (k : Fin 2048)
    (h : p (ix3 b i 0) = BitVec.ofNat 32 k.val) :
    Host.gather gather_S128x2048_S128x2048x1_S128x2048_n_1_0_0_1_2_11 x p (ix2 b i) = x (ix2 b k) := by
  unfold Host.gather
  refine congrArg x (funext fun a => Fin.ext ?_)
  let d := gather_S128x2048_S128x2048x1_S128x2048_n_1_0_0_1_2_11
  show d.start (ix2 b i) p a + d.batchCoord (ix2 b i) a + d.offCoord (ix2 b i) a = _
  match a with
  | ⟨0, _⟩ =>
    show d.start (ix2 b i) p 0 + d.batchCoord (ix2 b i) 0 + d.offCoord (ix2 b i) 0 = b.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ d.operandBatchingDims from List.mem_singleton.mpr rfl), Nat.zero_add, Nat.add_zero]
    rfl
  | ⟨1, _⟩ =>
    show d.start (ix2 b i) p 1 + d.batchCoord (ix2 b i) 1 + d.offCoord (ix2 b i) 1 = k.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ d.startIndexMap from List.mem_singleton.mpr rfl)]
    have hs (g) : d.siIdx (ix2 b i) ⟨List.idxOf (1 : Fin 2) d.startIndexMap, g⟩ = ix3 b i 0 := by
      funext a
      match a with
      | ⟨0, _⟩ => rfl
      | ⟨1, _⟩ => rfl
      | ⟨2, _⟩ => rfl
    rw [hs, h, WordArith.toInt_ofNat_small _ (by omega)]
    show min (k.val : ℤ).toNat (2048 - 1) + 0 + 0 = k.val
    omega

theorem taken_at (x : FVec Ideal S128x2048 .f32) (p : IVec S128x2048 32) (b : Fin 128) (i : Fin 2048) (k : Fin 2048)
    (h : p (ix2 b i) = BitVec.ofNat 32 k.val) : taken x p (ix2 b i) = x (ix2 b k) := by
  unfold taken
  show Scalar.select (inRange (wrapped p) (ix2 b i)) _ _ = _
  rw [inRange_at _ b i k (wrapped_at p b i k h), gather_at _ _ b i k (wrapped_at p b i k h)]
  rfl

/-- The row's order: which value comes strictly first. -/
def before (u : Fin 2048 → EReal) (a b : Fin 2048) : Bool := decide (u a < u b)

theorem compare_f (x y : EReal) (i j : BitVec 32) :
    (comparator_f32_i32_d1 (F := Ideal) (x, i) (y, j) == 1#1) = decide (x < y) := by
  have hz : ∀ z : EReal, Scalar.select (Ideal.cmp .une z z) (Ideal.ofBits .f32 0x7FC00000#32)
      (Scalar.select (Ideal.cmp .oeq z (Ideal.ofBits .f32 0x00000000#32)) (Ideal.ofBits .f32 0x00000000#32) z) = z := by
    intro z
    unfold Ideal.cmp
    rw [Sort.scalar_select, Sort.scalar_select]
    simp only [ne_eq, not_true_eq_false, decide_false, decide_eq_true_eq, Bool.false_eq_true, if_false]
    split_ifs with h
    · exact h.symm
    · rfl
  show (Ideal.cmp .olt (Scalar.select (Ideal.cmp .une x x) (Ideal.ofBits .f32 0x7FC00000#32)
      (Scalar.select (Ideal.cmp .oeq x (Ideal.ofBits .f32 0x00000000#32)) (Ideal.ofBits .f32 0x00000000#32) x))
    (Scalar.select (Ideal.cmp .une y y) (Ideal.ofBits .f32 0x7FC00000#32)
      (Scalar.select (Ideal.cmp .oeq y (Ideal.ofBits .f32 0x00000000#32)) (Ideal.ofBits .f32 0x00000000#32) y)) == 1#1) = _
  rw [hz, hz]
  unfold Ideal.cmp
  by_cases h : x < y <;> simp [h]

theorem compare_i (a b : Fin 2048) (i j : BitVec 32) :
    (comparator_i32_i32_d1 (BitVec.ofNat 32 a.val, i) (BitVec.ofNat 32 b.val, j) == 1#1) = decide (a < b) := by
  show (BitVec.ofBool ((BitVec.ofNat 32 a.val).slt (BitVec.ofNat 32 b.val)) == 1#1) = _
  rw [BitVec.slt, WordArith.toInt_ofNat_small _ (by omega), WordArith.toInt_ofNat_small _ (by omega)]
  by_cases h : a < b
  · have : (a.val : ℤ) < b.val := by exact_mod_cast h
    simp [h]
  · have : ¬ (a.val : ℤ) < b.val := by exact_mod_cast h
    simp [h]

theorem along_eq (b : Fin 128) (i k : Fin 2048) : Shape.Idx.along (s := S128x2048) (ix2 b i) 1 k = ix2 b k := by
  unfold Shape.Idx.along
  funext a
  match a with
  | ⟨0, _⟩ => rfl
  | ⟨1, _⟩ => rfl

section Sorts

attribute [local irreducible] comparator_f32_i32_d1 comparator_i32_i32_d1 sortedFrom

/-- The positions a sort of the rows by value gives. -/
theorem sort_at {α : Type} (cmp : α × BitVec 32 → α × BitVec 32 → BitVec 1) (x : S128x2048.Idx → α) (b : Fin 128) (i : Fin 2048)
    (before : Fin 2048 → Fin 2048 → Bool)
    (h : ∀ k k' : Fin 2048, (cmp (x (ix2 b k), BitVec.ofNat 32 k.val) (x (ix2 b k'), BitVec.ofNat 32 k'.val) == 1#1) = before k k') :
    (Host.sort2 S128x2048 1 cmp x (iotaInDim S128x2048 32 1)).2 (ix2 b i) = BitVec.ofNat 32 (sortedFrom before i).val := by
  have e : (fun k k' : Fin 2048 => cmp (x (Shape.Idx.along (s := S128x2048) (ix2 b i) 1 k), iotaInDim S128x2048 32 1 (Shape.Idx.along (s := S128x2048) (ix2 b i) 1 k))
      (x (Shape.Idx.along (s := S128x2048) (ix2 b i) 1 k'), iotaInDim S128x2048 32 1 (Shape.Idx.along (s := S128x2048) (ix2 b i) 1 k')) == 1#1) = before := by
    funext k k'
    rw [along_eq, along_eq]
    exact h k k'
  unfold Host.sort2
  rw [dif_pos (show 1 < S128x2048.rank by decide)]
  rw [← e]
  rfl

end Sorts

/-- The positions of the first sort. -/
theorem sort_f_at (x : FVec Ideal S128x2048 .f32) (b : Fin 128) (i : Fin 2048) :
    (Host.sort2 S128x2048 1 (comparator_f32_i32_d1 (F := Ideal)) x (iotaInDim S128x2048 32 1)).2 (ix2 b i)
      = BitVec.ofNat 32 (sortedFrom (before fun j => x (ix2 b j)) i).val :=
  sort_at _ x b i _ fun _ _ => compare_f _ _ _ _

/-- The positions of the second sort, of positions. -/
theorem sort_i_at (p : IVec S128x2048 32) (b : Fin 128) (i : Fin 2048) (f : Fin 2048 → Fin 2048)
    (h : ∀ j, p (ix2 b j) = BitVec.ofNat 32 (f j).val) :
    (Host.sort2 S128x2048 1 comparator_i32_i32_d1 p (iotaInDim S128x2048 32 1)).2 (ix2 b i)
      = BitVec.ofNat 32 (sortedFrom (fun a b => decide (f a < f b)) i).val :=
  sort_at _ p b i _ fun k k' => by rw [h, h]; exact compare_i _ _ _ _

end Cert.Ref

end
-- ==== Proof.RefAlloc.lean ====
/- The reference's allocations: the sorted usage, its running products, and the way back to the positions. -/
module

public import proofs.«01_k».proof.Proof.RefTail
public import proofs.«01_k».proof.Proof.RefLoop
public import proofs.«01_k».proof.Proof.RefTake

@[expose] public section

set_option maxRecDepth 20000

noncomputable section

namespace Cert.Ref

open Cert.ReferenceIdeal Cert.ReferenceIdeal.Gen Cert.ReferenceIdeal.Value Idealize.ShloMosaic Idealize.ShloMosaic.TcCoe
open Idealize.ShloMosaic.StableHlo Cert.Sort Cert.Lanes Cert.Model

variable (m : (ℓ : Loc nD τ sig) → Buf (Elt Ideal) ℓ) (c : Dev nD)

/-- Where the sort by usage takes its entries from, and where each position is sorted to. -/
def source (b : Fin 128) : Fin 2048 → Fin 2048 := sortedFrom (before ((data m c).u b))
def place (b : Fin 128) : Fin 2048 → Fin 2048 := sortedFrom (fun k k' => decide (source m c b k < source m c b k'))

/-- The contents after the first sort. -/
def B : Valuation τ sig (Elt Ideal) := after hostOps0_1 (A m c)

theorem B_v45 (b : Fin 128) (i : Fin 2048) :
    (B m c (Proc.devRef .tc main_v45) : IVec S128x2048 32) (ix2 b i) = BitVec.ofNat 32 (source m c b i).val := by
  unfold B
  rw [v45_eq, sort_f_at]
  unfold source
  congr 4
  exact funext fun j => u_at m c b j

theorem entry_eq : entryContents preI m c = after hostOps0_3 (after hostOps0_2 (B m c)) := by
  simp only [entryContents, afterL_cons, afterL_nil]
  rfl

/-- The sorted usage. -/
theorem sorted_at (b : Fin 128) (i : Fin 2048) :
    ent (S := S128x2048) (after hostOps0_2 (B m c) (Proc.devRef .tc main_v46)) (ix2 b i) = (data m c).u b (source m c b i) := by
  rw [v46_eq]
  refine (taken_at _ _ b i (source m c b i) (B_v45 m c b i)).trans ?_
  rw [← u_at]
  unfold B
  rw [after_of_writes_sub _ _ hostOps0_1_writes (by decide)]

theorem rows_at (b : Fin 128) (j : Fin 2048) : rows m c (ix2 j b) = (data m c).u b (source m c b j) := by
  rw [← sorted_at]
  unfold rows
  rw [entry_eq]
  generalize after hostOps0_2 (B m c) = V
  have h : (after hostOps0_3 V (Proc.devRef .tc main_v50_0) : S2048x128.Idx → EReal) =
      transpose S2048x128 [1, 0] (V (Proc.devRef .tc main_v46) : S128x2048.Idx → EReal) transposes_S128x2048_S2048x128_1_0 := by
    after_reads_simp
    rfl
  rw [h]
  simp only [pointwise]

theorem exit_v46 (b : Fin 128) (i : Fin 2048) :
    ent (S := S128x2048) (exitContents m c (Proc.devRef .tc main_v46)) (ix2 b i) = (data m c).u b (source m c b i) := by
  rw [exit_keep m c _ (by decide), entry_eq, after_of_writes_sub _ _ hostOps0_3_writes (by decide), sorted_at]

theorem exit_v45 : exitContents m c (Proc.devRef .tc main_v45) = B m c (Proc.devRef .tc main_v45) := by
  rw [exit_keep m c _ (by decide), entry_eq, after_of_writes_sub _ _ hostOps0_3_writes (by decide),
    after_of_writes_sub _ _ hostOps0_2_writes (by decide)]

theorem v54_at (V : Valuation τ sig (Elt Ideal)) (b : Fin 128) (i : Fin 2048) :
    ent (S := S128x2048) (after hostOps0_4 V (Proc.devRef .tc main_v54)) (ix2 b i)
      = ((1 : EReal) - ent (S := S128x2048) (V (Proc.devRef .tc main_v46)) (ix2 b i))
        * ent (S := S2048x128) (V (Proc.devRef .tc main_v50_3)) (ix2 i b) := by
  after_reads_simp
  simp only [pointwise]

/-- The allocations in sorted order. -/
theorem v54_sorted (b : Fin 128) (i : Fin 2048) :
    ent (S := S128x2048) (after hostOps0_4 (exitContents m c) (Proc.devRef .tc main_v54)) (ix2 b i)
      = ((1 : EReal) - (data m c).u b (source m c b i))
        * ∏ j ∈ Finset.univ.filter (fun j : Fin 2048 => j ≤ i), (data m c).u b (source m c b j) := by
  rw [v54_at, exit_v46, show ent (S := S2048x128) (exitContents m c (Proc.devRef .tc main_v50_3)) (ix2 i b) = prod m c (i.val + 1) b from
    exit_out m c i b]
  unfold prod
  simp only [rows_at]
  refine congrArg (fun x : EReal => ((1 : EReal) - (data m c).u b (source m c b i)) * x) ?_
  refine Finset.prod_congr (Finset.filter_congr fun j _ => ?_) fun _ _ => rfl
  exact Nat.lt_succ_iff

/-- The place each position was sorted to. -/
theorem v55_at (b : Fin 128) (i : Fin 2048) :
    (after hostOps0_5 (after hostOps0_4 (exitContents m c)) (Proc.devRef .tc main_v55) : IVec S128x2048 32) (ix2 b i)
      = BitVec.ofNat 32 (place m c b i).val := by
  rw [v55_eq, after_of_writes_sub _ _ after4_writes (by decide), exit_v45]
  exact sort_i_at _ b i (source m c b) fun j => B_v45 m c b j

/-- The allocations. -/
theorem T_v56 (b : Fin 128) (i : Fin 2048) : ent (S := S128x2048) (T m c (Proc.devRef .tc main_v56)) (ix2 b i) = alloc ((data m c).u b) i := by
  unfold T
  rw [v56_eq]
  refine (taken_at _ _ b i (place m c b i) (v55_at m c b i)).trans ?_
  rw [after_of_writes_sub _ _ after5_writes (by decide)]
  refine (v54_sorted m c b (place m c b i)).trans ?_
  have h1 : source m c b (place m c b i) = i := RefOrder.sorted_sources ((data m c).u b) (fun _ _ => rfl) (fun _ _ => rfl) i
  rw [h1]
  have h2 := RefOrder.running_product ((data m c).u b) ((data m c).u b) (before := before ((data m c).u b))
    (before' := fun k k' => decide (source m c b k < source m c b k')) (fun _ _ => rfl) (fun _ _ => rfl) i
  refine (congrArg (((1 : EReal) - (data m c).u b i) * ·) h2).trans ?_
  unfold alloc
  refine congrArg (((1 : EReal) - (data m c).u b i) * ·) ?_
  refine Finset.prod_congr (Finset.filter_congr fun j _ => Iff.rfl) fun _ _ => rfl

end Cert.Ref

end
-- ==== Proof.RefResults.lean ====
/- The reference's five results, in terms of its arguments. -/
module

public import proofs.«01_k».proof.Proof.RefAlloc

@[expose] public section

set_option maxRecDepth 20000

noncomputable section

namespace Cert.Ref

open Cert.ReferenceIdeal Cert.ReferenceIdeal.Gen Cert.ReferenceIdeal.Value Idealize.ShloMosaic Idealize.ShloMosaic.TcCoe
open Idealize.ShloMosaic.StableHlo Cert.Sort Cert.Lanes Cert.Model

variable (m : (ℓ : Loc nD τ sig) → Buf (Elt Ideal) ℓ) (c : Dev nD)

theorem w_at (b : Fin 128) (i : Fin 2048) :
    ent (S := S128x1x2048) (Z (T m c) (Proc.devRef .tc main_v60)) (ix3 b 0 i) = (data m c).w b i := by
  rw [v60_at, T_v56]
  refine congrArg (fun x : EReal => (x + alloc ((data m c).u b) i) * Ideal.ofBits .f32 0x3F000000#32) (T_v32 m c b i)

theorem rm_at (b : Fin 128) (i : Fin 2048) (k : Fin 128) :
    ent (S := S128x2048x128) (Z (T m c) (Proc.devRef .tc main_v65)) (ix3 b i k) = (data m c).rm b i k := by
  rw [v65_at, w_at, T_arg m c _ (by decide +kernel)]
  exact congrArg (fun x : EReal => (data m c).mem b i k + (data m c).w b i * x) (T_v10 m c b k)

theorem t_at (b : Fin 128) (i : Fin 2048) :
    ent (S := S128x1x2048) (Z (T m c) (Proc.devRef .tc main_v77)) (ix3 b 0 i) = (data m c).t b i := by
  rw [v77_eq, T_arg m c main_arg3 (by decide +kernel), T_arg m c main_arg11 (by decide +kernel), T_arg m c main_arg12 (by decide +kernel),
    T_arg m c main_arg13 (by decide +kernel), T_arg m c main_arg14 (by decide +kernel)]
  refine (scoresH_at _ _ _ _ _ _ b i).trans ?_
  unfold Data.t
  refine congrArg (score _ _ _) ?_
  exact funext fun k => rm_at m c b i k

theorem wr_at (b : Fin 128) (i : Fin 2048) :
    ent (S := S128x1x2048) (Z (T m c) (Proc.devRef .tc main_v88)) (ix3 b 0 i) = (data m c).wr b i := by
  rw [v88_eq]
  refine (soft_at _ b i).trans ?_
  exact congrArg (softmax · i) (funext fun j => t_at m c b j)

theorem y_at (b : Fin 128) (o : Fin 512) :
    ent (S := S128x512) (Z (T m c) (Proc.devRef .tc main_v97)) (ix2 b o) = (data m c).y b o := by
  rw [v97_eq, T_arg m c main_arg15 (by decide +kernel), T_arg m c main_arg16 (by decide +kernel)]
  refine (outH_at _ _ _ _ b o).trans ?_
  unfold Data.y
  exact congrArg₂ (fun f g => out f g (data m c).Ow (data m c).Ob o) (funext fun i => wr_at m c b i)
    (funext fun i => funext fun k => rm_at m c b i k)

/-- The results, entry by entry. -/
abbrev final : Valuation τ sig (Elt Ideal) := finalContents condOps preI bodyI postI 2048 m c

theorem result0 : final m c (Proc.devRef .tc main_v98) = fun j : S128x2048.Idx => (data m c).wr (j 0) (j 1) := by
  refine (congrFun (final_eq m c) _).trans (funext fun y => ?_)
  obtain ⟨b, i, rfl⟩ : ∃ (b : Fin 128) (i : Fin 2048), y = (ix2 b i : S128x2048.Idx) := ⟨y 0, y 1, (ix2_eta (y : S128x2048.Idx)).symm⟩
  exact (v98_at (T m c) b i).trans (wr_at m c b i)

theorem result1 : final m c (Proc.devRef .tc main_v66) = fun j : S128x2048.Idx => (data m c).w (j 0) (j 1) := by
  refine (congrFun (final_eq m c) _).trans (funext fun y => ?_)
  obtain ⟨b, i, rfl⟩ : ∃ (b : Fin 128) (i : Fin 2048), y = (ix2 b i : S128x2048.Idx) := ⟨y 0, y 1, (ix2_eta (y : S128x2048.Idx)).symm⟩
  exact (v66_at (T m c) b i).trans (w_at m c b i)

theorem result2 : final m c (Proc.devRef .tc main_v44) = fun j : S128x2048.Idx => (data m c).u (j 0) (j 1) := by
  refine (congrFun (final_eq m c) _).trans ?_
  rw [after_of_writes_sub _ _ after7_writes (by decide +kernel)]
  refine (T_v44 m c).trans (funext fun y => ?_)
  obtain ⟨b, i, rfl⟩ : ∃ (b : Fin 128) (i : Fin 2048), y = (ix2 b i : S128x2048.Idx) := ⟨y 0, y 1, (ix2_eta (y : S128x2048.Idx)).symm⟩
  exact u_at m c b i

theorem result3 : final m c (Proc.devRef .tc main_v97) = fun j : S128x512.Idx => (data m c).y (j 0) (j 1) := by
  refine (congrFun (final_eq m c) _).trans (funext fun y => ?_)
  obtain ⟨b, i, rfl⟩ : ∃ (b : Fin 128) (i : Fin 512), y = (ix2 b i : S128x512.Idx) := ⟨y 0, y 1, (ix2_eta (y : S128x512.Idx)).symm⟩
  exact y_at m c b i

theorem result4 : final m c (Proc.devRef .tc main_v65) = fun j : S128x2048x128.Idx => (data m c).rm (j 0) (j 1) (j 2) := by
  refine (congrFun (final_eq m c) _).trans (funext fun y => ?_)
  obtain ⟨b, i, k, rfl⟩ : ∃ (b : Fin 128) (i : Fin 2048) (k : Fin 128), y = (ix3 b i k : S128x2048x128.Idx) :=
    ⟨y 0, y 1, y 2, (ix3_eta (y : S128x2048x128.Idx)).symm⟩
  exact rm_at m c b i k

end Cert.Ref

end
-- ==== Proof.SliceRun.lean ====
/- What the kernel's body computes for the two slices of the usage block is the sort of `Sort.lean`, undone. -/
module

public import proofs.«01_k».proof.Proof.Sort
public import proofs.«01_k».proof.Proof.Gen.KernelIdeal.Frame

@[expose] public section

set_option maxRecDepth 20000

noncomputable section

namespace Cert.Sort

open Cert.KernelIdeal Cert.KernelIdeal.Gen Idealize.ShloMosaic

variable {F : FTy → Type} [FloatOps F]
variable (c : Dev nD) (arg1 : Memref sig .tc .vmem S128x128 .f32) (harg1 : arg1.IsWhole)
  (arg2 : Memref sig .tc .vmem S128x128 .f32) (harg2 : arg2.IsWhole) (arg3 : Memref sig .tc .vmem S128x128 .f32)
  (harg3 : arg3.IsWhole) (arg4 : Memref sig .tc .vmem S128x1 .f32) (harg4 : arg4.IsWhole)
  (arg25 : Memref sig .tc .vmem S3x128x128 .i32)
  (x0 x1 x2 : Vec F S128x128 .f32) (x3 : Vec F S128x1 .f32)

/-- The usage block the body sorts. -/
def usage : FVec F S128x128 .f32 := kernelRun0_A.sl.r_15 c arg1 harg1 arg2 harg2 arg3 harg3 arg4 harg4 x0 x1 x2 x3

/-- Its first and its second half. -/
def half0 (u : FVec F S128x128 .f32) : FVec F S64x128 .f32 :=
  extractStridedSlice S64x128 ![0, 0] u slices_S128x128_o0_0_S64x128
def half1 (u : FVec F S128x128 .f32) : FVec F S64x128 .f32 :=
  extractStridedSlice S64x128 ![64, 0] u slices_S128x128_o64_0_S64x128

/-- The word of a slice as it is stored. -/
def stored (w : IVec S64x128 32) : IVec S1x64x128 32 := shapeCast S1x64x128 w shapeCasts_S64x128_S1x64x128
/-- A stored word as it is used. -/
def loaded (w : Vec F S1x64x128 .i32) : IVec S64x128 32 := shapeCast S64x128 w shapeCasts_S1x64x128_S64x128

attribute [local irreducible] ori andi xori select cmpi cmpf dynamicRotate iota broadcast shapeCast mulf subf shli
  extractStridedSlice concatenate View.readCov

/-- The words of the first slice, as stored. -/
theorem pieces0 : kernelRun0_A.sl.HS0_3 c arg1 harg1 arg2 harg2 arg3 harg3 arg4 harg4 x0 x1 x2 x3 =
    [⟨Rect.unit ![2, 0, 0] S1x64x128.size inb_S3x128x128_S1x64x128_2_0_0,
        stored (st2 (half0 (usage c arg1 harg1 arg2 harg2 arg3 harg3 arg4 harg4 x0 x1 x2 x3))).W⟩,
      ⟨Rect.unit ![1, 0, 0] S1x64x128.size inb_S3x128x128_S1x64x128_1_0_0,
        stored (st1 (half0 (usage c arg1 harg1 arg2 harg2 arg3 harg3 arg4 harg4 x0 x1 x2 x3))).W⟩,
      ⟨Rect.unit ![0, 0, 0] S1x64x128.size inb_S3x128x128_S1x64x128_0_0_0,
        stored (st0 (half0 (usage c arg1 harg1 arg2 harg2 arg3 harg3 arg4 harg4 x0 x1 x2 x3))).W⟩] := rfl

/-- The words of both slices, as stored. -/
theorem pieces1 : kernelRun0_A.sl.HS0_6 c arg1 harg1 arg2 harg2 arg3 harg3 arg4 harg4 x0 x1 x2 x3 =
    ⟨Rect.unit ![2, 64, 0] S1x64x128.size inb_S3x128x128_S1x64x128_2_64_0,
        stored (st2 (half1 (usage c arg1 harg1 arg2 harg2 arg3 harg3 arg4 harg4 x0 x1 x2 x3))).W⟩ ::
      ⟨Rect.unit ![1, 64, 0] S1x64x128.size inb_S3x128x128_S1x64x128_1_64_0,
        stored (st1 (half1 (usage c arg1 harg1 arg2 harg2 arg3 harg3 arg4 harg4 x0 x1 x2 x3))).W⟩ ::
      ⟨Rect.unit ![0, 64, 0] S1x64x128.size inb_S3x128x128_S1x64x128_0_64_0,
        stored (st0 (half1 (usage c arg1 harg1 arg2 harg2 arg3 harg3 arg4 harg4 x0 x1 x2 x3))).W⟩ ::
      kernelRun0_A.sl.HS0_3 c arg1 harg1 arg2 harg2 arg3 harg3 arg4 harg4 x0 x1 x2 x3 := rfl

/-- The first slice's result, from its words as loaded. -/
theorem result0 : kernelRun0_A.sl.v3702 c arg1 harg1 arg2 harg2 arg3 harg3 arg4 harg4 arg25 x0 x1 x2 x3 =
    sliceOf (half0 (usage c arg1 harg1 arg2 harg2 arg3 harg3 arg4 harg4 x0 x1 x2 x3))
      (loaded (kernelRun0_A.sl.v3238 c arg1 harg1 arg2 harg2 arg3 harg3 arg4 harg4 arg25 x0 x1 x2 x3))
      (loaded (kernelRun0_A.sl.v2773 c arg1 harg1 arg2 harg2 arg3 harg3 arg4 harg4 arg25 x0 x1 x2 x3))
      (loaded (kernelRun0_A.sl.v2713 c arg1 harg1 arg2 harg2 arg3 harg3 arg4 harg4 arg25 x0 x1 x2 x3)) := rfl

/-- The second slice's result, from its words as loaded. -/
theorem result1 : kernelRun0_A.sl.v7264 c arg1 harg1 arg2 harg2 arg3 harg3 arg4 harg4 arg25 x0 x1 x2 x3 =
    sliceOf (half1 (usage c arg1 harg1 arg2 harg2 arg3 harg3 arg4 harg4 x0 x1 x2 x3))
      (loaded (kernelRun0_A.sl.v6800 c arg1 harg1 arg2 harg2 arg3 harg3 arg4 harg4 arg25 x0 x1 x2 x3))
      (loaded (kernelRun0_A.sl.v6335 c arg1 harg1 arg2 harg2 arg3 harg3 arg4 harg4 arg25 x0 x1 x2 x3))
      (loaded (kernelRun0_A.sl.v6275 c arg1 harg1 arg2 harg2 arg3 harg3 arg4 harg4 arg25 x0 x1 x2 x3)) := rfl

end Cert.Sort

end
-- ==== Proof.SliceBack.lean ====
/- The slices' words read back from where they were stored: each slice's result is the slice sorted, multiplied along
   and undone. -/
module

public import proofs.«01_k».proof.Proof.SliceRun
public import proofs.«01_k».proof.Proof.SliceValue
public import Idealize.ShloMosaic.Lib.Pipeline.Value
public import Idealize.ShloMosaic.Lib.Pointwise

@[expose] public section

set_option maxRecDepth 20000

noncomputable section

namespace Cert.Sort

open Cert.KernelIdeal Cert.KernelIdeal.Gen Idealize.ShloMosaic

theorem loaded_stored {F : FTy → Type} (w : IVec S64x128 32) : loaded (F := F) (stored w) = w := by
  funext i
  exact congrFun (shapeCast_shapeCast w _ _) i

/-- A box of words read where a box of words lies last. -/
theorem back_here {F : FTy → Type} [FloatOps F] (v : View sig .tc .vmem S3x128x128 .i32)
    (off : Fin 3 → ℕ) (inb : ∀ a, off a + S1x64x128.size a ≤ S3x128x128.size a) (w : S1x64x128.Idx → BitVec 32)
    (L : List (View.Piece (Elt F) S3x128x128 .i32)) :
    v.readCov ((⟨Rect.unit off S1x64x128.size inb, w⟩ : View.Piece (Elt F) S3x128x128 .i32) :: L)
      (Rect.unit (s := S3x128x128) off S1x64x128.size inb).toLoadRect = w := by
  rw [View.readCov_eq_canon']
  funext j
  exact View.canon_cons_emb (Rect.unit (s := S3x128x128) off S1x64x128.size inb) w L j

/-- A box of words read past a box of another word. -/
theorem back_past {F : FTy → Type} [FloatOps F] (v : View sig .tc .vmem S3x128x128 .i32)
    (off off' : Fin 3 → ℕ) (inb : ∀ a, off a + S1x64x128.size a ≤ S3x128x128.size a)
    (inb' : ∀ a, off' a + S1x64x128.size a ≤ S3x128x128.size a) (w : S1x64x128.Idx → BitVec 32)
    (L : List (View.Piece (Elt F) S3x128x128 .i32)) (h : off 0 ≠ off' 0) :
    v.readCov ((⟨Rect.unit off' S1x64x128.size inb', w⟩ : View.Piece (Elt F) S3x128x128 .i32) :: L)
      (Rect.unit (s := S3x128x128) off S1x64x128.size inb).toLoadRect =
    v.readCov L (Rect.unit (s := S3x128x128) off S1x64x128.size inb).toLoadRect := by
  rw [View.readCov_eq_canon', View.readCov_eq_canon']
  funext j
  refine View.canon_cons_of_not_mem _ L ?_
  intro hm
  obtain ⟨i, hi, he⟩ := (LoadRect.mem_set _).mp hm (0 : Fin 3)
  have hi1 : i < 1 := hi
  have hj : (j 0).val < 1 := (j 0).isLt
  have he' : off 0 + 1 * (j 0).val = off' 0 + 1 * i := he
  omega

variable {F : FTy → Type} [FloatOps F]
variable (c : Dev nD) (arg1 : Memref sig .tc .vmem S128x128 .f32) (harg1 : arg1.IsWhole)
  (arg2 : Memref sig .tc .vmem S128x128 .f32) (harg2 : arg2.IsWhole) (arg3 : Memref sig .tc .vmem S128x128 .f32)
  (harg3 : arg3.IsWhole) (arg4 : Memref sig .tc .vmem S128x1 .f32) (harg4 : arg4.IsWhole)
  (arg25 : Memref sig .tc .vmem S3x128x128 .i32)
  (x0 x1 x2 : Vec F S128x128 .f32) (x3 : Vec F S128x1 .f32)

theorem first_slice : kernelRun0_A.sl.v3702 c arg1 harg1 arg2 harg2 arg3 harg3 arg4 harg4 arg25 x0 x1 x2 x3 =
    slice (half0 (usage c arg1 harg1 arg2 harg2 arg3 harg3 arg4 harg4 x0 x1 x2 x3)) := by
  rw [result0, slice]
  have h0 : kernelRun0_A.sl.v3238 c arg1 harg1 arg2 harg2 arg3 harg3 arg4 harg4 arg25 x0 x1 x2 x3 =
      stored (st0 (half0 (usage c arg1 harg1 arg2 harg2 arg3 harg3 arg4 harg4 x0 x1 x2 x3))).W := by
    unfold kernelRun0_A.sl.v3238
    rw [pieces0, back_past _ _ _ _ _ _ _ (by decide), back_past _ _ _ _ _ _ _ (by decide), back_here]
  have h1 : kernelRun0_A.sl.v2773 c arg1 harg1 arg2 harg2 arg3 harg3 arg4 harg4 arg25 x0 x1 x2 x3 =
      stored (st1 (half0 (usage c arg1 harg1 arg2 harg2 arg3 harg3 arg4 harg4 x0 x1 x2 x3))).W := by
    unfold kernelRun0_A.sl.v2773
    rw [pieces0, back_past _ _ _ _ _ _ _ (by decide), back_here]
  have h2 : kernelRun0_A.sl.v2713 c arg1 harg1 arg2 harg2 arg3 harg3 arg4 harg4 arg25 x0 x1 x2 x3 =
      stored (st2 (half0 (usage c arg1 harg1 arg2 harg2 arg3 harg3 arg4 harg4 x0 x1 x2 x3))).W := by
    unfold kernelRun0_A.sl.v2713
    rw [pieces0, back_here]
  rw [h0, h1, h2, loaded_stored, loaded_stored, loaded_stored]

theorem second_slice : kernelRun0_A.sl.v7264 c arg1 harg1 arg2 harg2 arg3 harg3 arg4 harg4 arg25 x0 x1 x2 x3 =
    slice (half1 (usage c arg1 harg1 arg2 harg2 arg3 harg3 arg4 harg4 x0 x1 x2 x3)) := by
  rw [result1, slice]
  have h0 : kernelRun0_A.sl.v6800 c arg1 harg1 arg2 harg2 arg3 harg3 arg4 harg4 arg25 x0 x1 x2 x3 =
      stored (st0 (half1 (usage c arg1 harg1 arg2 harg2 arg3 harg3 arg4 harg4 x0 x1 x2 x3))).W := by
    unfold kernelRun0_A.sl.v6800
    rw [pieces1, back_past _ _ _ _ _ _ _ (by decide), back_past _ _ _ _ _ _ _ (by decide), back_here]
  have h1 : kernelRun0_A.sl.v6335 c arg1 harg1 arg2 harg2 arg3 harg3 arg4 harg4 arg25 x0 x1 x2 x3 =
      stored (st1 (half1 (usage c arg1 harg1 arg2 harg2 arg3 harg3 arg4 harg4 x0 x1 x2 x3))).W := by
    unfold kernelRun0_A.sl.v6335
    rw [pieces1, back_past _ _ _ _ _ _ _ (by decide), back_here]
  have h2 : kernelRun0_A.sl.v6275 c arg1 harg1 arg2 harg2 arg3 harg3 arg4 harg4 arg25 x0 x1 x2 x3 =
      stored (st2 (half1 (usage c arg1 harg1 arg2 harg2 arg3 harg3 arg4 harg4 x0 x1 x2 x3))).W := by
    unfold kernelRun0_A.sl.v6275
    rw [pieces1, back_here]
  rw [h0, h1, h2, loaded_stored, loaded_stored, loaded_stored]

/-- A usage block as its eight records. -/
def recs (u : FVec F S128x128 .f32) : FVec F S8x2048 .f32 := shapeCast S8x2048 u shapeCasts_S128x128_S8x2048

/-- Two slices' results as the block of eight records. -/
def join (a b : FVec F S64x128 .f32) : FVec F S8x2048 .f32 :=
  shapeCast S8x2048 (concatenate S128x128 0 [⟨S64x128, a⟩, ⟨S64x128, b⟩] concatenates_S64x128_S64x128_S128x128_d0)
    shapeCasts_S128x128_S8x2048

theorem joined : kernelRun0_A.sl.v7266 c arg1 harg1 arg2 harg2 arg3 harg3 arg4 harg4 arg25 x0 x1 x2 x3 =
    join (slice (half0 (usage c arg1 harg1 arg2 harg2 arg3 harg3 arg4 harg4 x0 x1 x2 x3)))
      (slice (half1 (usage c arg1 harg1 arg2 harg2 arg3 harg3 arg4 harg4 x0 x1 x2 x3))) := by
  rw [← first_slice (arg25 := arg25), ← second_slice (arg25 := arg25)]
  rfl

/-- Each record's entries are its allocation. -/
theorem join_at (u : FVec Ideal S128x128 .f32) (b : Fin 8) (i : Fin 2048) :
    join (slice (half0 u)) (slice (half1 u)) (ix2 b i) = alloc (fun q => recs u (ix2 b q)) i := by
  have hb := b.isLt
  have hi := i.isLt
  by_cases h : b.val < 4
  · have e0 : ∀ q : Fin (2 ^ 11), half0 u (at' ⟨b.val, h⟩ q) = recs u (ix2 b q) := fun q => by
      have hq : q.val < 2048 := q.isLt
      simp only [half0, recs, pointwise, at']
      refine congrArg u ((ix2_inj _ _ _ _).mpr ⟨Fin.ext ?_, Fin.ext ?_⟩)
      · show 0 + (16 * b.val + q.val / 128) = b.val * 16 + q.val / 128
        omega
      · show 0 + q.val % 128 = q.val % 128
        omega
    have e1 : join (slice (half0 u)) (slice (half1 u)) (ix2 b i) = slice (half0 u) (at' ⟨b.val, h⟩ i) := by
      generalize slice (half0 u) = p
      generalize slice (half1 u) = q
      simp only [join, pointwise, at']
      rw [dif_pos (by omega)]
      refine congrArg p ((ix2_inj _ _ _ _).mpr ⟨Fin.ext ?_, rfl⟩)
      show b.val * 16 + i.val / 128 = 16 * b.val + i.val / 128
      omega
    rw [e1, slice_at]
    exact congrArg (fun f => alloc f i) (funext e0)
  · have hlt : b.val - 4 < 4 := by omega
    have e0 : ∀ q : Fin (2 ^ 11), half1 u (at' ⟨b.val - 4, hlt⟩ q) = recs u (ix2 b q) := fun q => by
      have hq : q.val < 2048 := q.isLt
      simp only [half1, recs, pointwise, at']
      refine congrArg u ((ix2_inj _ _ _ _).mpr ⟨Fin.ext ?_, Fin.ext ?_⟩)
      · show 64 + (16 * (b.val - 4) + q.val / 128) = b.val * 16 + q.val / 128
        omega
      · show 0 + q.val % 128 = q.val % 128
        omega
    have e1 : join (slice (half0 u)) (slice (half1 u)) (ix2 b i) = slice (half1 u) (at' ⟨b.val - 4, hlt⟩ i) := by
      generalize slice (half0 u) = p
      generalize slice (half1 u) = q
      simp only [join, pointwise, at']
      rw [dif_neg (by omega)]
      refine congrArg q ((ix2_inj _ _ _ _).mpr ⟨Fin.ext ?_, Fin.ext ?_⟩)
      · show b.val * 16 + i.val / 128 - 64 = 16 * (b.val - 4) + i.val / 128
        omega
      · rfl
    rw [e1, slice_at]
    exact congrArg (fun f => alloc f i) (funext e0)

end Cert.Sort

end
-- ==== Proof.Block.lean ====
/- What the kernel's body leaves in its five output blocks, as functions of its input blocks. -/
module

public import proofs.«01_k».proof.Proof.SliceBack
public import proofs.«01_k».proof.Proof.LaneReduce
public import Idealize.ShloMosaic.Lib.Pipeline.ValueKit

@[expose] public section

set_option maxRecDepth 20000

noncomputable section

namespace Cert.Block

open Cert.KernelIdeal Cert.KernelIdeal.Gen Idealize.ShloMosaic Cert.Sort Cert.Lanes

variable {F : FTy → Type} [FloatOps F]
variable (x0 x1 x2 : Vec F S128x128 .f32) (x3 : Vec F S128x1 .f32) (x4 x5 : Vec F S8x512 .f32)
  (x6 : Vec F S8x2048x128 .f32) (x7 : Vec F S128x512 .f32) (x8 : Vec F S128 .f32) (x9 : Vec F S64x128 .f32)
  (x10 : Vec F S64 .f32) (x11 : Vec F S64x128 .f32) (x12 : Vec F S64 .f32) (x13 : Vec F S64x512 .f32)
  (x14 : Vec F S64 .f32) (x15 : Vec F S64x128 .f32) (x16 : Vec F S64 .f32) (x17 : Vec F S512x128 .f32)
  (x18 : Vec F S512 .f32)

/-- The usage block. -/
def use : FVec F S128x128 .f32 := k0_pay19 (k0_pay17 x2 x1) (k0_pay18 x2 x1) x3 x0
/-- The allocations. -/
def allocs : FVec F S8x2048 .f32 := join (slice (half0 (use x0 x1 x2 x3))) (slice (half1 (use x0 x1 x2 x3)))
/-- The embedded input. -/
def emb : FVec F S8x128 .f32 := k0_pay3 x4 x7 x8
/-- The read key. -/
def rkey : FVec F S8x64 .f32 := k0_pay7 x5 x13 x14
/-- The scores the content weights are the softmax of. -/
def scores : FVec F S8x2048 .f32 :=
  k0_pay12 (k0_pay2 x6) (k0_pay5 x4 x7 x8 x9 x10 x11) (k0_pay6 x4 x7 x8 x9 x10 x12) (rkey x5 x13 x14) x15
/-- The write weights. -/
def weights : FVec F S8x2048 .f32 :=
  k0_pay1183 (soft (scores x4 x5 x6 x7 x8 x9 x10 x11 x12 x13 x14 x15)) (allocs x0 x1 x2 x3)

/-- The second scores from the write weights `w`. -/
def rescore (v11 v33 : FVec F S8x128 .f32) (v39 : FVec F S8x1 .f32) (v59 w : FVec F S8x2048 .f32) : FVec F S8x2048 .f32 :=
  addf (addf v59 (mulf w (broadcastTo S8x2048 (shapeCast S8x1
    (multiReduction .add [1] S8 (mulf v11 v33) 0x00000000#32 reduces_S8x128_S8 (.inl rfl) rfl) shapeCasts_S8_S8x1)
    broadcasts_S8x1_S8x2048))) (broadcastTo S8x2048 v39 broadcasts_S8x1_S8x2048)

/-- The scores the read weights are the softmax of. -/
def scores2 : FVec F S8x2048 .f32 :=
  rescore (emb x4 x7 x8) (k0_pay8 (rkey x5 x13 x14) x15) (k0_pay9 (rkey x5 x13 x14) x16)
    (k0_pay11 (k0_pay2 x6) (k0_pay5 x4 x7 x8 x9 x10 x11) (rkey x5 x13 x14) x15)
    (weights x0 x1 x2 x3 x4 x5 x6 x7 x8 x9 x10 x11 x12 x13 x14 x15)

/-- The read vector from the read weights `wr` over the memory block `mem`. -/
def readOut (wr : FVec F S8x2048 .f32) (mem : FVec F S8x2048x128 .f32) : FVec F S8x128 .f32 :=
  matmul dot_S8x16384_S16384x128_S8x128_1_0_0_1_n_n none
    (select (cmpi .eq (shrsi (iota .tc S8x16384 32 [1] iota_S8x16384_d1_w32) (broadcast S8x16384 11#32))
        (iota .tc S8x16384 32 [0] iota_S8x16384_d0_w32))
      (concatenate S8x16384 1 [⟨S8x2048, wr⟩, ⟨S8x2048, wr⟩, ⟨S8x2048, wr⟩, ⟨S8x2048, wr⟩, ⟨S8x2048, wr⟩, ⟨S8x2048, wr⟩,
        ⟨S8x2048, wr⟩, ⟨S8x2048, wr⟩] concatenates_S8x2048_S8x2048_S8x2048_S8x2048_S8x2048_S8x2048_S8x2048_S8x2048_S8x16384_d1)
      (broadcast S8x16384 (Scalar.ofBits .f32 0x00000000#32)))
    (shapeCast S16384x128 mem shapeCasts_S8x2048x128_S16384x128) (constant S8x128 .f32 0x00000000#32)

/-- The new memory block. -/
def memory : FVec F S8x2048x128 .f32 :=
  k0_pay1188 x6 (emb x4 x7 x8) (weights x0 x1 x2 x3 x4 x5 x6 x7 x8 x9 x10 x11 x12 x13 x14 x15)

/-- The output block. -/
def output : FVec F S8x512 .f32 :=
  k0_pay1 (k0_pay1190 (readOut (soft (scores2 x0 x1 x2 x3 x4 x5 x6 x7 x8 x9 x10 x11 x12 x13 x14 x15 x16))
      (memory x0 x1 x2 x3 x4 x5 x6 x7 x8 x9 x10 x11 x12 x13 x14 x15)) x17 (constant S8x512 .f32 0x00000000#32)) x18

section Same
attribute [local irreducible] extractStridedSlice concatenate dynamicRotate shapeCast multiReduction broadcastTo

theorem soft_second (v11 v33 : FVec F S8x128 .f32) (v39 : FVec F S8x1 .f32) (v59 v118 v7266 : FVec F S8x2048 .f32) :
    k0_pay1187 (k0_pay1184 v11 v33 v39 v59 v118 v7266) (k0_pay1185 v11 v33 v39 v59 v118 v7266)
      (k0_pay1186 v11 v33 v39 v59 v118 v7266) = soft (rescore v11 v33 v39 v59 (k0_pay1183 v118 v7266)) := rfl

theorem read_out (v4 : Vec F S8x2048x128 .f32) (v11 : FVec F S8x128 .f32) (v7269 : FVec F S8x2048 .f32)
    (v7307 : FVec F S8x2048 .f32) (v7313 : FVec F S8x512 .f32) (v7314 : FVec F S8x256 .f32) :
    k0_pay1189 v4 v11 v7269 v7307 v7313 v7314 = readOut (k0_pay1187 v7307 v7313 v7314) (k0_pay1188 v4 v11 v7269) := rfl

end Same

variable (c : Dev nD) (i : grid0.Coords)
  (arg1 : Memref sig .tc .vmem S128x128 .f32) (harg1 : arg1.IsWhole)
  (arg2 : Memref sig .tc .vmem S128x128 .f32) (harg2 : arg2.IsWhole)
  (arg3 : Memref sig .tc .vmem S128x128 .f32) (harg3 : arg3.IsWhole)
  (arg4 : Memref sig .tc .vmem S128x1 .f32) (harg4 : arg4.IsWhole)
  (arg5 : Memref sig .tc .vmem S8x512 .f32) (harg5 : arg5.IsWhole)
  (arg6 : Memref sig .tc .vmem S8x512 .f32) (harg6 : arg6.IsWhole)
  (arg7 : Memref sig .tc .vmem S8x2048x128 .f32) (harg7 : arg7.IsWhole)
  (arg8 : Memref sig .tc .vmem S128x512 .f32) (harg8 : arg8.IsWhole)
  (arg9 : Memref sig .tc .vmem S128 .f32) (harg9 : arg9.IsWhole)
  (arg10 : Memref sig .tc .vmem S64x128 .f32) (harg10 : arg10.IsWhole)
  (arg11 : Memref sig .tc .vmem S64 .f32) (harg11 : arg11.IsWhole)
  (arg12 : Memref sig .tc .vmem S64x128 .f32) (harg12 : arg12.IsWhole)
  (arg13 : Memref sig .tc .vmem S64 .f32) (harg13 : arg13.IsWhole)
  (arg14 : Memref sig .tc .vmem S64x512 .f32) (harg14 : arg14.IsWhole)
  (arg15 : Memref sig .tc .vmem S64 .f32) (harg15 : arg15.IsWhole)
  (arg16 : Memref sig .tc .vmem S64x128 .f32) (harg16 : arg16.IsWhole)
  (arg17 : Memref sig .tc .vmem S64 .f32) (harg17 : arg17.IsWhole)
  (arg18 : Memref sig .tc .vmem S512x128 .f32) (harg18 : arg18.IsWhole)
  (arg19 : Memref sig .tc .vmem S512 .f32) (harg19 : arg19.IsWhole)
  (arg20 : Memref sig .tc .vmem S8x2048 .f32) (harg20 : arg20.IsWhole)
  (arg21 : Memref sig .tc .vmem S8x2048 .f32) (harg21 : arg21.IsWhole)
  (arg22 : Memref sig .tc .vmem S8x2048 .f32) (harg22 : arg22.IsWhole)
  (arg23 : Memref sig .tc .vmem S8x512 .f32) (harg23 : arg23.IsWhole)
  (arg24 : Memref sig .tc .vmem S8x2048x128 .f32) (harg24 : arg24.IsWhole)
  (arg25 : Memref sig .tc .vmem S3x128x128 .i32) (harg25 : arg25.IsWhole)

theorem usage_eq : Cert.Sort.usage c arg1 harg1 arg2 harg2 arg3 harg3 arg4 harg4 x0 x1 x2 x3 = use x0 x1 x2 x3 := by
  unfold Cert.Sort.usage use kernelRun0_A.sl.r_15 kernelRun0_A.sl.r_13 kernelRun0_A.sl.r_14
  simp (disch := decide) only [View.readAt_eq_ld, View.ld_unit_lit', Memref.IsWhole.read_unread]

theorem out_use : out0_A_21 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 x0 x1 x2 x3 x4 x5 x6
    x7 x8 x9 x10 x11 x12 x13 x14 x15 x16 x17 x18 = recs (use x0 x1 x2 x3) := by
  refine (View.read_writes_junk_eq_canon _ _).trans ?_
  refine (View.canon_cons_unit_lit' _ _ _ (by decide)).trans ?_
  rw [← usage_eq x0 x1 x2 x3 c arg1 harg1 arg2 harg2 arg3 harg3 arg4 harg4]
  rfl

theorem allocs_eq : kernelRun0_A.sl.v7266 c arg1 harg1 arg2 harg2 arg3 harg3 arg4 harg4 arg25 x0 x1 x2 x3 = allocs x0 x1 x2 x3 := by
  rw [joined, usage_eq]
  rfl

theorem emb_eq : kernelRun0_A.sl.r_2 c arg5 harg5 arg8 harg8 arg9 harg9 x4 x7 x8 = emb x4 x7 x8 := by
  unfold kernelRun0_A.sl.r_2 emb
  simp (disch := decide) only [View.readAt_eq_ld, View.ld_unit_lit', Memref.IsWhole.read_unread]

theorem weights_eq : kernelRun0_A.sl.r_577 c arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg25
    x0 x1 x2 x3 x4 x5 x6 x7 x8 x9 x10 x11 x12 x13 x14 x15 = weights x0 x1 x2 x3 x4 x5 x6 x7 x8 x9 x10 x11 x12 x13 x14 x15 := by
  unfold kernelRun0_A.sl.r_577
  rw [allocs_eq]
  unfold weights scores rkey kernelRun0_A.sl.r_12 kernelRun0_A.sl.r_11 kernelRun0_A.sl.r_10 kernelRun0_A.sl.r_1 kernelRun0_A.sl.r_3 kernelRun0_A.sl.r_4 kernelRun0_A.sl.r_5 kernelRun0_A.sl.r_6
  rw [soft_first]
  simp (disch := decide) only [View.readAt_eq_ld, View.ld_unit_lit', Memref.IsWhole.read_unread]

theorem out_weights : out0_A_20 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 x0 x1 x2 x3 x4 x5 x6
    x7 x8 x9 x10 x11 x12 x13 x14 x15 x16 x17 x18 =
    weights x0 x1 x2 x3 x4 x5 x6 x7 x8 x9 x10 x11 x12 x13 x14 x15 := by
  refine (View.read_writes_junk_eq_canon _ _).trans ?_
  refine (View.canon_cons_unit_lit' _ _ _ (by decide)).trans ?_
  exact weights_eq _ _ _ _ _ _ _ _ _ _ _ _ _ _ _ _ _ _ _ _ _ _ _ _ _ _ _ _ _ _ _ _ _ _ _ _ _ _ _ _ _ _ _ _ _ _ _ _ _ _

theorem out_memory : out0_A_23 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 x0 x1 x2 x3 x4 x5 x6
    x7 x8 x9 x10 x11 x12 x13 x14 x15 x16 x17 x18 =
    memory x0 x1 x2 x3 x4 x5 x6 x7 x8 x9 x10 x11 x12 x13 x14 x15 := by
  refine (View.read_writes_junk_eq_canon _ _).trans ?_
  refine (View.canon_cons_unit_lit' _ _ _ (by decide)).trans ?_
  rw [weights_eq, emb_eq]
  unfold memory kernelRun0_A.sl.r
  simp (disch := decide) only [View.readAt_eq_ld, View.ld_unit_lit', Memref.IsWhole.read_unread]

theorem read_eq : k0_pay1187
    (kernelRun0_A.sl.r_578 c arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg25 x0 x1 x2
    x3 x4 x5 x6 x7 x8 x9 x10 x11 x12 x13 x14 x15 x16)
    (kernelRun0_A.sl.r_579 c arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg25 x0 x1 x2
    x3 x4 x5 x6 x7 x8 x9 x10 x11 x12 x13 x14 x15 x16)
    (kernelRun0_A.sl.r_580 c arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg25 x0 x1 x2
    x3 x4 x5 x6 x7 x8 x9 x10 x11 x12 x13 x14 x15 x16) = soft (scores2 x0 x1 x2 x3 x4 x5 x6 x7 x8 x9 x10 x11 x12 x13 x14 x15 x16) := by
  unfold kernelRun0_A.sl.r_578 kernelRun0_A.sl.r_579 kernelRun0_A.sl.r_580
  rw [soft_second, allocs_eq, emb_eq]
  unfold scores2 weights scores rkey kernelRun0_A.sl.r_12 kernelRun0_A.sl.r_11 kernelRun0_A.sl.r_10 kernelRun0_A.sl.r_1 kernelRun0_A.sl.r_3 kernelRun0_A.sl.r_4 kernelRun0_A.sl.r_5 kernelRun0_A.sl.r_6 kernelRun0_A.sl.r_7 kernelRun0_A.sl.r_8 kernelRun0_A.sl.r_9
    kernelRun0_A.sl.r_1 kernelRun0_A.sl.r_3 kernelRun0_A.sl.r_5 kernelRun0_A.sl.r_6
  rw [soft_first]
  simp (disch := decide) only [View.readAt_eq_ld, View.ld_unit_lit', Memref.IsWhole.read_unread]

theorem out_read : out0_A_19 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 x0 x1 x2 x3 x4 x5 x6
    x7 x8 x9 x10 x11 x12 x13 x14 x15 x16 x17 x18 =
    soft (scores2 x0 x1 x2 x3 x4 x5 x6 x7 x8 x9 x10 x11 x12 x13 x14 x15 x16) := by
  refine (View.read_writes_junk_eq_canon _ _).trans ?_
  refine (View.canon_cons_unit_lit' _ _ _ (by decide)).trans ?_
  exact read_eq _ _ _ _ _ _ _ _ _ _ _ _ _ _ _ _ _ _ _ _ _ _ _ _ _ _ _ _ _ _ _ _ _ _ _ _ _ _ _ _ _ _ _ _ _ _ _ _ _ _ _ _ _

theorem out_output : out0_A_22 c i arg1 harg1 arg2 harg2 arg3 harg3 arg4 harg4 arg5 harg5 arg6 harg6 arg7 harg7 arg8 harg8 arg9 harg9 arg10
    harg10 arg11 harg11 arg12 harg12 arg13 harg13 arg14 harg14 arg15 harg15 arg16 harg16 arg17 harg17 arg18 harg18
    arg19 harg19 arg20 harg20 arg21 harg21 arg22 harg22 arg23 harg23 arg24 harg24 arg25 harg25 x0 x1 x2 x3 x4 x5 x6
    x7 x8 x9 x10 x11 x12 x13 x14 x15 x16 x17 x18 =
    output x0 x1 x2 x3 x4 x5 x6 x7 x8 x9 x10 x11 x12 x13 x14 x15 x16 x17 x18 := by
  refine (View.read_writes_junk_eq_canon _ _).trans ?_
  refine (View.canon_cons_unit_lit' _ _ _ (by decide)).trans ?_
  unfold kernelRun0_A.sl.r_583 kernelRun0_A.sl.r_581
  rw [read_out, read_eq, weights_eq, emb_eq]
  unfold output memory kernelRun0_A.sl.r_582 kernelRun0_A.sl.r_584 kernelRun0_A.sl.r
  simp (disch := decide) only [View.readAt_eq_ld, View.ld_unit_lit', Memref.IsWhole.read_unread]
  rfl

end Cert.Block

end
-- ==== Proof.BlockRead.lean ====
/- The body's five output blocks, entry by entry. -/
module

public import proofs.«01_k».proof.Proof.Block
public import proofs.«01_k».proof.Proof.Model

@[expose] public section

set_option maxRecDepth 20000

noncomputable section

namespace Cert.Block

open Cert.KernelIdeal Cert.KernelIdeal.Gen Idealize.ShloMosaic Cert.Sort Cert.Lanes Cert.Model

variable (x0 x1 x2 : Vec Ideal S128x128 .f32) (x3 : Vec Ideal S128x1 .f32) (x4 x5 : Vec Ideal S8x512 .f32)
  (x6 : Vec Ideal S8x2048x128 .f32) (x7 : Vec Ideal S128x512 .f32) (x8 : Vec Ideal S128 .f32) (x9 : Vec Ideal S64x128 .f32)
  (x10 : Vec Ideal S64 .f32) (x11 : Vec Ideal S64x128 .f32) (x12 : Vec Ideal S64 .f32) (x13 : Vec Ideal S64x512 .f32)
  (x14 : Vec Ideal S64 .f32) (x15 : Vec Ideal S64x128 .f32) (x16 : Vec Ideal S64 .f32) (x17 : Vec Ideal S512x128 .f32)
  (x18 : Vec Ideal S512 .f32)

theorem use_at (r l : Fin 128) : use x0 x1 x2 x3 (ix2 r l) =
    Model.use (x0 (ix2 r l)) (x1 (ix2 r l)) (x2 (ix2 r l)) (x3 (ix2 r 0)) := by
  unfold use Model.use
  simp only [k0_pay15, k0_pay16, k0_pay17, k0_pay18, k0_pay19, pointwise]
  rfl

theorem recs_at (u : FVec Ideal S128x128 .f32) (b : Fin 8) (i : Fin 2048) :
    recs u (ix2 b i) = u (ix2 ⟨16 * b + i / 128, by omega⟩ ⟨i % 128, by omega⟩) := by
  unfold recs
  simp only [pointwise]
  exact congrArg (fun r => u (ix2 r _)) (Fin.ext (congrArg (· + i.val / 128) (Nat.mul_comm _ _)))

theorem emb_at (b : Fin 8) (k : Fin 128) : emb x4 x7 x8 (ix2 b k) =
    lin (fun d => x4 (ix2 b d)) (fun k d => x7 (ix2 k d)) (fun k => x8 (ix1 k)) k := by
  unfold emb lin
  simp only [k0_pay3, pointwise, zero_add]
  rfl

theorem wkey_at (b : Fin 8) (h : Fin 64) : k0_pay4 x4 x7 x8 x9 x10 (ix2 b h) =
    lin (fun k => emb x4 x7 x8 (ix2 b k)) (fun k d => x9 (ix2 k d)) (fun k => x10 (ix1 k)) h := by
  unfold emb lin
  simp only [k0_pay4, pointwise, zero_add]
  rfl

theorem rkey_at (b : Fin 8) (h : Fin 64) : rkey x5 x13 x14 (ix2 b h) =
    lin (fun k => x5 (ix2 b k)) (fun k d => x13 (ix2 k d)) (fun k => x14 (ix1 k)) h := by
  unfold rkey lin
  simp only [k0_pay7, pointwise, zero_add]
  rfl

theorem pay5_at (b : Fin 8) (k : Fin 128) : k0_pay5 x4 x7 x8 x9 x10 x11 (ix2 b k) =
    ∑ h, k0_pay4 x4 x7 x8 x9 x10 (ix2 b h) * x11 (ix2 h k) := by
  simp only [k0_pay5, pointwise, zero_add]

theorem pay6_at (b : Fin 8) : k0_pay6 x4 x7 x8 x9 x10 x12 (ix2 b 0) =
    ∑ h, k0_pay4 x4 x7 x8 x9 x10 (ix2 b h) * x12 (ix1 h) := by
  simp only [k0_pay6, pointwise]
  rfl

theorem pay8_at (v : FVec Ideal S8x64 .f32) (b : Fin 8) (k : Fin 128) : k0_pay8 v x15 (ix2 b k) =
    ∑ h, v (ix2 b h) * x15 (ix2 h k) := by
  simp only [k0_pay8, pointwise, zero_add]

theorem pay9_at (v : FVec Ideal S8x64 .f32) (b : Fin 8) : k0_pay9 v x16 (ix2 b 0) =
    ∑ h, v (ix2 b h) * x16 (ix1 h) := by
  simp only [k0_pay9, pointwise]
  rfl

theorem pay2_at (b : Fin 8) (i : Fin 2048) (k : Fin 128) :
    k0_pay2 x6 (ix2 ⟨2048 * b + i, by omega⟩ k) = x6 (ix3 b i k) := by
  simp only [k0_pay2, pointwise]

theorem pay10_top (v5 : FVec Ideal S16384x128 .f32) (v19 : FVec Ideal S8x128 .f32) (v31 : FVec Ideal S8x64 .f32) (b : Fin 8)
    (i : Fin 16384) : k0_pay10 v5 v19 v31 x15 (ix2 ⟨0 + b, by omega⟩ i) = ∑ k, v19 (ix2 b k) * v5 (ix2 i k) := by
  have hk : 0 + b.val < 8 := by omega
  simp only [k0_pay10, pointwise, hk, ↓reduceDIte]
  simp only [zero_add]

theorem pay10_low (v5 : FVec Ideal S16384x128 .f32) (v19 : FVec Ideal S8x128 .f32) (v31 : FVec Ideal S8x64 .f32) (b : Fin 8)
    (i : Fin 16384) : k0_pay10 v5 v19 v31 x15 (ix2 ⟨8 + b, by omega⟩ i) = ∑ k, k0_pay8 v31 x15 (ix2 b k) * v5 (ix2 i k) := by
  have hk : ¬ 8 + b.val < 8 := by omega
  simp only [k0_pay10, pointwise, hk, ↓reduceDIte]
  simp only [zero_add]
  refine Finset.sum_congr rfl fun k _ => congrArg (fun j => k0_pay8 v31 x15 j * _) ?_
  exact (ix2_inj _ _ _ _).mpr ⟨Fin.ext (Nat.add_sub_cancel_left 8 b.val), Fin.ext rfl⟩

section Opaque
attribute [local irreducible] k0_pay10 extractStridedSlice

/-- Rows `o` to `o + 7`, each its own stretch of 2048 columns. -/
theorem rows_at (x : FVec Ideal S16x16384 .f32) (o : ℕ) (ho : o ≤ 8) (hs : ∀ n : Fin 8, S16x16384.Slices ![o + n, 2048 * n] S1x2048)
    (b : Fin 8) (i : Fin 2048) (h) :
    concatenate S8x2048 0 (List.ofFn fun n : Fin 8 => (⟨S1x2048, extractStridedSlice S1x2048 ![o + n, 2048 * n] x (hs n)⟩ :
      (s : Shape) × (s.Idx → EReal))) h (ix2 b i) = x (ix2 ⟨o + b, by omega⟩ ⟨2048 * b + i, by omega⟩) := by
  refine (concatenate_ofFn_apply (t := S8x2048) (s₁ := S1x2048) 0 (N := 8)
    (fun n => extractStridedSlice S1x2048 ![o + n, 2048 * n] x (hs n)) h rfl 1 rfl (ix2 b i) b (Nat.div_one _) (ix2 0 i)
    (Nat.mod_one _).symm ?_).trans ?_
  · intro a ha
    fin_cases a
    · exact absurd rfl ha
    · rfl
  · refine extractStridedSlice_apply _ _ _ _ _ fun a => ?_
    fin_cases a <;> rfl

theorem pay11_at (v5 : FVec Ideal S16384x128 .f32) (v19 : FVec Ideal S8x128 .f32) (v31 : FVec Ideal S8x64 .f32) (b : Fin 8)
    (i : Fin 2048) : k0_pay11 v5 v19 v31 x15 (ix2 b i) =
    k0_pay10 v5 v19 v31 x15 (ix2 ⟨8 + b, by omega⟩ ⟨2048 * b + i, by omega⟩) :=
  rows_at (k0_pay10 v5 v19 v31 x15) 8 le_rfl (by decide) b i
    concatenates_S1x2048_S1x2048_S1x2048_S1x2048_S1x2048_S1x2048_S1x2048_S1x2048_S8x2048_d0

theorem pay12_at (v5 : FVec Ideal S16384x128 .f32) (v19 : FVec Ideal S8x128 .f32) (v25 : FVec Ideal S8x1 .f32) (v31 : FVec Ideal S8x64 .f32) (b : Fin 8)
    (i : Fin 2048) : k0_pay12 v5 v19 v25 v31 x15 (ix2 b i) =
    k0_pay10 v5 v19 v31 x15 (ix2 ⟨0 + b, by omega⟩ ⟨2048 * b + i, by omega⟩) + v25 (ix2 b 0) := by
  have h : broadcastTo S8x2048 v25 broadcasts_S8x1_S8x2048 (ix2 b i) = v25 (ix2 b 0) := by
    simp only [pointwise]
    rfl
  exact congrArg₂ (· + ·) (rows_at (k0_pay10 v5 v19 v31 x15) 0 (by decide) (by decide) b i
    concatenates_S1x2048_S1x2048_S1x2048_S1x2048_S1x2048_S1x2048_S1x2048_S1x2048_S8x2048_d0) h
end Opaque

theorem scores_at (b : Fin 8) (i : Fin 2048) : scores x4 x5 x6 x7 x8 x9 x10 x11 x12 x13 x14 x15 (ix2 b i) =
    score' (fun h => k0_pay4 x4 x7 x8 x9 x10 (ix2 b h)) (fun h k => x11 (ix2 h k)) (fun h => x12 (ix1 h)) (fun k => x6 (ix3 b i k)) := by
  unfold scores score'
  rw [pay12_at, pay10_top, pay6_at]
  simp only [pay5_at, pay2_at]

theorem weights_at (b : Fin 8) (i : Fin 2048) : weights x0 x1 x2 x3 x4 x5 x6 x7 x8 x9 x10 x11 x12 x13 x14 x15 (ix2 b i) =
    weight (fun i => scores x4 x5 x6 x7 x8 x9 x10 x11 x12 x13 x14 x15 (ix2 b i)) (fun i => recs (use x0 x1 x2 x3) (ix2 b i)) i := by
  unfold weights weight allocs
  simp only [k0_pay1183, pointwise]
  rw [soft_at, join_at]
  rfl

theorem rescore_at (v11 v33 : FVec Ideal S8x128 .f32) (v39 : FVec Ideal S8x1 .f32) (v59 w : FVec Ideal S8x2048 .f32)
    (b : Fin 8) (i : Fin 2048) : rescore v11 v33 v39 v59 w (ix2 b i) =
    v59 (ix2 b i) + w (ix2 b i) * (∑ k, v11 (ix2 b k) * v33 (ix2 b k)) + v39 (ix2 b 0) := by
  unfold rescore
  simp only [pointwise]
  rfl

theorem scores2_at (b : Fin 8) (i : Fin 2048) : scores2 x0 x1 x2 x3 x4 x5 x6 x7 x8 x9 x10 x11 x12 x13 x14 x15 x16 (ix2 b i) =
    rescore' (fun h => rkey x5 x13 x14 (ix2 b h)) (fun h k => x15 (ix2 h k)) (fun h => x16 (ix1 h)) (fun k => x6 (ix3 b i k))
      (weights x0 x1 x2 x3 x4 x5 x6 x7 x8 x9 x10 x11 x12 x13 x14 x15 (ix2 b i)) (fun k => emb x4 x7 x8 (ix2 b k)) := by
  unfold scores2 rescore'
  rw [rescore_at, pay11_at, pay10_low, pay9_at]
  simp only [pay8_at, pay2_at]

theorem memory_at (b : Fin 8) (i : Fin 2048) (k : Fin 128) :
    memory x0 x1 x2 x3 x4 x5 x6 x7 x8 x9 x10 x11 x12 x13 x14 x15 (ix3 b i k) =
    remem (fun i k => x6 (ix3 b i k)) (fun i => weights x0 x1 x2 x3 x4 x5 x6 x7 x8 x9 x10 x11 x12 x13 x14 x15 (ix2 b i))
      (fun k => emb x4 x7 x8 (ix2 b k)) i k := by
  unfold memory remem
  simp only [k0_pay1188, pointwise]
  rfl

/-- The mask of one record's columns. -/
theorem mask_at (b : Fin 8) (x : Fin 16384) :
    cmpi .eq (shrsi (iota .tc S8x16384 32 [1] iota_S8x16384_d1_w32) (broadcast S8x16384 11#32))
      (iota .tc S8x16384 32 [0] iota_S8x16384_d0_w32) (ix2 b x) = BitVec.ofBool (decide (x.val / 2048 = b.val)) := by
  have hx : IntOp.shrsi ArithUnit.vector (BitVec.ofNat 32 x.val) 11#32 = BitVec.ofNat 32 (x.val / 2048) := by
    have h : (BitVec.ofNat 32 x.val).msb = false := by
      rw [BitVec.msb_eq_false_iff_two_mul_lt, BitVec.toNat_ofNat]; omega
    show (BitVec.ofNat 32 x.val).sshiftRight 11 = _
    rw [BitVec.sshiftRight_eq_of_msb_false h]
    apply BitVec.eq_of_toNat_eq
    rw [BitVec.toNat_ushiftRight, BitVec.toNat_ofNat, BitVec.toNat_ofNat, Nat.shiftRight_eq_div_pow]
    omega
  show BitVec.ofBool (IntOp.shrsi ArithUnit.vector (BitVec.ofNat 32 (0 * 16384 + x.val)) 11#32 ==
    BitVec.ofNat 32 (0 * 8 + b.val)) = _
  simp only [Nat.zero_mul, Nat.zero_add]
  rw [hx]
  refine congrArg BitVec.ofBool ?_
  rw [Bool.beq_eq_decide_eq]
  refine decide_eq_decide.mpr ⟨fun h => ?_, fun h => by rw [h]⟩
  have := congrArg BitVec.toNat h
  rw [BitVec.toNat_ofNat, BitVec.toNat_ofNat] at this
  omega

theorem copies_at (wr : FVec Ideal S8x2048 .f32) (b : Fin 8) (x : Fin 16384) :
    concatenate S8x16384 1 [⟨S8x2048, wr⟩, ⟨S8x2048, wr⟩, ⟨S8x2048, wr⟩, ⟨S8x2048, wr⟩, ⟨S8x2048, wr⟩, ⟨S8x2048, wr⟩,
      ⟨S8x2048, wr⟩, ⟨S8x2048, wr⟩] concatenates_S8x2048_S8x2048_S8x2048_S8x2048_S8x2048_S8x2048_S8x2048_S8x2048_S8x16384_d1
      (ix2 b x) = wr (ix2 b ⟨x.val % 2048, Nat.mod_lt _ (by decide)⟩) := by
  refine concatenate_ofFn_apply (t := S8x16384) (s₁ := S8x2048) 1 (N := 8) (fun _ => wr)
    concatenates_S8x2048_S8x2048_S8x2048_S8x2048_S8x2048_S8x2048_S8x2048_S8x2048_S8x16384_d1
    rfl 2048 rfl (ix2 b x) ⟨x.val / 2048, by omega⟩ rfl (ix2 b ⟨x.val % 2048, Nat.mod_lt _ (by decide)⟩) rfl ?_
  intro a ha
  fin_cases a
  · rfl
  · exact absurd rfl ha

theorem dot_at (L : FVec Ideal S8x16384 .f32) (mem : FVec Ideal S8x2048x128 .f32) (b : Fin 8) (k : Fin 128) :
    matmul dot_S8x16384_S16384x128_S8x128_1_0_0_1_n_n none L (shapeCast S16384x128 mem shapeCasts_S8x2048x128_S16384x128)
      (constant S8x128 .f32 0x00000000#32) (ix2 b k) =
    ∑ x : Fin 16384, L (ix2 b x) * mem (ix3 ⟨x.val / 2048, by omega⟩ ⟨x.val % 2048, Nat.mod_lt _ (by decide)⟩ k) := by
  simp only [pointwise, zero_add]

theorem readOut_at (wr : FVec Ideal S8x2048 .f32) (mem : FVec Ideal S8x2048x128 .f32) (b : Fin 8) (k : Fin 128) :
    readOut wr mem (ix2 b k) = ∑ i, wr (ix2 b i) * mem (ix3 b i k) := by
  have h : readOut wr mem (ix2 b k) = ∑ x : Fin 16384, (if x.val / 2048 = b.val then
      wr (ix2 b ⟨x.val % 2048, Nat.mod_lt _ (by decide)⟩) else 0) *
      mem (ix3 ⟨x.val / 2048, by omega⟩ ⟨x.val % 2048, Nat.mod_lt _ (by decide)⟩ k) := by
    unfold readOut
    rw [dot_at]
    refine Finset.sum_congr rfl fun x _ => congrArg (· * _) ?_
    rw [show ∀ (c : IVec S8x16384 1) (p q : FVec Ideal S8x16384 .f32) (j), select c p q j = Scalar.select (c j) (p j) (q j) from
      fun _ _ _ _ => rfl, mask_at, scalar_select, copies_at]
    by_cases hx : x.val / 2048 = b.val
    · simp [hx]
    · simp only [hx, decide_false, if_false, pointwise]
      rfl
  rw [h, ← (finProdFinEquiv (m := 8) (n := 2048)).sum_comp, Fintype.sum_prod_type, Finset.sum_eq_single b]
  · refine Finset.sum_congr rfl fun i _ => ?_
    have h₁ : (i.val + 2048 * b.val) / 2048 = b.val := by omega
    have h₂ : (i.val + 2048 * b.val) % 2048 = i.val := by omega
    simp only [finProdFinEquiv_apply_val, h₁, h₂, if_true]
  · intro a _ ha
    refine Finset.sum_eq_zero fun i _ => ?_
    have h₁ : (i.val + 2048 * a.val) / 2048 = a.val := by omega
    simp only [finProdFinEquiv_apply_val, h₁, Fin.val_inj, ha, if_false, zero_mul]
  · exact fun h => absurd (Finset.mem_univ _) h

theorem output_at (b : Fin 8) (o : Fin 512) : output x0 x1 x2 x3 x4 x5 x6 x7 x8 x9 x10 x11 x12 x13 x14 x15 x16 x17 x18 (ix2 b o) =
    out (softmax fun i => scores2 x0 x1 x2 x3 x4 x5 x6 x7 x8 x9 x10 x11 x12 x13 x14 x15 x16 (ix2 b i))
      (fun i k => memory x0 x1 x2 x3 x4 x5 x6 x7 x8 x9 x10 x11 x12 x13 x14 x15 (ix3 b i k)) (fun o k => x17 (ix2 o k))
      (fun o => x18 (ix1 o)) o := by
  unfold output out lin
  simp only [k0_pay1, k0_pay1190, pointwise, zero_add, readOut_at, soft_at]
  rfl

end Cert.Block

end
-- ==== Proof.Arrays.lean ====
/- The kernel's five result arrays, entry by entry, as functions of the arguments. -/
module

public import proofs.«01_k».proof.Proof.BlockRead
public import proofs.«01_k».proof.Proof.Gen.KernelIdeal.Value
public import Idealize.ShloMosaic.Lib.Pipeline.ValueKit
public import Idealize.ShloMosaic.Lib.StableHlo.RunRead

@[expose] public section

set_option maxRecDepth 20000

noncomputable section

namespace Cert.Arrays

open Cert.KernelIdeal Cert.KernelIdeal.Gen Idealize.ShloMosaic Idealize.ShloMosaic.TcCoe Cert.Sort Cert.Lanes Cert.Model
open Idealize.ShloMosaic.StableHlo
open Idealize.ShloMosaic.Pipeline (Dat)

variable (m : (ℓ : Loc nD τ sig) → Buf (Elt Ideal) ℓ) (c : Dev nD)

/-- The arguments at launch. -/
def data : Data where
  st k b i := (m ((c : Thread nD τ).loc main_arg0) : S3x128x2048.Idx → EReal) (ix3 k b i)
  fg b := (m ((c : Thread nD τ).loc main_arg1) : S128x1.Idx → EReal) (ix2 b 0)
  inp b k := (m ((c : Thread nD τ).loc main_arg2) : S128x1x512.Idx → EReal) (ix3 b 0 k)
  qry b k := (m ((c : Thread nD τ).loc main_arg3) : S128x1x512.Idx → EReal) (ix3 b 0 k)
  mem b i k := (m ((c : Thread nD τ).loc main_arg4) : S128x2048x128.Idx → EReal) (ix3 b i k)
  Iw k d := (m ((c : Thread nD τ).loc main_arg5) : S128x512.Idx → EReal) (ix2 k d)
  Ib k := (m ((c : Thread nD τ).loc main_arg6) : S128.Idx → EReal) (ix1 k)
  W1 k d := (m ((c : Thread nD τ).loc main_arg7) : S64x128.Idx → EReal) (ix2 k d)
  b1 k := (m ((c : Thread nD τ).loc main_arg8) : S64.Idx → EReal) (ix1 k)
  W2 k d := (m ((c : Thread nD τ).loc main_arg9) : S64x128.Idx → EReal) (ix2 k d)
  b2 k := (m ((c : Thread nD τ).loc main_arg10) : S64.Idx → EReal) (ix1 k)
  R1 k d := (m ((c : Thread nD τ).loc main_arg11) : S64x512.Idx → EReal) (ix2 k d)
  c1 k := (m ((c : Thread nD τ).loc main_arg12) : S64.Idx → EReal) (ix1 k)
  R2 k d := (m ((c : Thread nD τ).loc main_arg13) : S64x128.Idx → EReal) (ix2 k d)
  c2 k := (m ((c : Thread nD τ).loc main_arg14) : S64.Idx → EReal) (ix1 k)
  Ow k d := (m ((c : Thread nD τ).loc main_arg15) : S512x128.Idx → EReal) (ix2 k d)
  Ob k := (m ((c : Thread nD τ).loc main_arg16) : S512.Idx → EReal) (ix1 k)

/-- The record of the batch that a grid point's row is. -/
def recd (t : Fin cfg0.N) (b : Fin 8) : Fin 128 := ⟨t.val * 8 + b.val, by have : t.val < 16 := t.isLt; omega⟩

/-- A grid point's rows of 128 numbers. -/
def row (t : Fin cfg0.N) (r : Fin 128) : Fin 2048 := ⟨t.val * 128 + r.val, by have : t.val < 16 := t.isLt; omega⟩

theorem state0 (r : Fin 2048) (l : Fin 128) : (V m c main_call0_v2 : S2048x128.Idx → EReal) (ix2 r l) =
    (data m c).st 0 ⟨r.val / 16, by omega⟩ ⟨r.val % 16 * 128 + l.val, by omega⟩ := by
  unfold V
  after_reads_simp
  simp only [pointwise]
  refine extractStridedSlice_apply _ (m (c, Proc.devRef .tc main_arg0) : S3x128x2048.Idx → EReal)
    slices_S3x128x2048_S1x128x2048_0_0_0 (ix3 0 _ _) (ix3 0 _ _) fun a => ?_
  fin_cases a
  exacts [rfl, (Nat.zero_add _).symm, (Nat.zero_add _).symm]

theorem state1 (r : Fin 2048) (l : Fin 128) : (V m c main_call0_v5 : S2048x128.Idx → EReal) (ix2 r l) =
    (data m c).st 1 ⟨r.val / 16, by omega⟩ ⟨r.val % 16 * 128 + l.val, by omega⟩ := by
  unfold V
  after_reads_simp
  simp only [pointwise]
  refine extractStridedSlice_apply _ (m (c, Proc.devRef .tc main_arg0) : S3x128x2048.Idx → EReal)
    slices_S3x128x2048_S1x128x2048_1_0_0 (ix3 0 _ _) (ix3 1 _ _) fun a => ?_
  fin_cases a
  exacts [rfl, (Nat.zero_add _).symm, (Nat.zero_add _).symm]

theorem state2 (r : Fin 2048) (l : Fin 128) : (V m c main_call0_v8 : S2048x128.Idx → EReal) (ix2 r l) =
    (data m c).st 2 ⟨r.val / 16, by omega⟩ ⟨r.val % 16 * 128 + l.val, by omega⟩ := by
  unfold V
  after_reads_simp
  simp only [pointwise]
  refine extractStridedSlice_apply _ (m (c, Proc.devRef .tc main_arg0) : S3x128x2048.Idx → EReal)
    slices_S3x128x2048_S1x128x2048_2_0_0 (ix3 0 _ _) (ix3 2 _ _) fun a => ?_
  fin_cases a
  exacts [rfl, (Nat.zero_add _).symm, (Nat.zero_add _).symm]

theorem gates (r : Fin 2048) : (V m c main_call0_v10 : S2048x1.Idx → EReal) (ix2 r 0) = (data m c).fg ⟨r.val / 16, by omega⟩ := by
  unfold V
  after_reads_simp
  simp only [pointwise]
  show broadcastInDim S128x16x1 ![0, 2] bcast_S128x1_S128x16x1_0_2 (m (c, Proc.devRef .tc main_arg1) : S128x1.Idx → EReal) _ = _
  simp only [pointwise]
  rfl

theorem inputs (b : Fin 128) (k : Fin 512) : (V m c main_call0_v11 : S128x512.Idx → EReal) (ix2 b k) = (data m c).inp b k := by
  unfold V
  after_reads_simp
  simp only [pointwise]
  rfl

theorem queries (b : Fin 128) (k : Fin 512) : (V m c main_call0_v12 : S128x512.Idx → EReal) (ix2 b k) = (data m c).qry b k := by
  unfold V
  after_reads_simp
  simp only [pointwise]
  rfl

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem index4 : ∀ t : Fin cfg0.N, win0_4.index t = ![t.val, 0] :=
  (by decide +kernel : ∀ t : Fin grid0.N, win0_4.index t = ![t.val, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0, 0] :=
  (by decide +kernel : ∀ t : Fin grid0.N, win0_6.index t = ![t.val, 0, 0])
theorem index7 : ∀ t : Fin cfg0.N, win0_7.index t = ![0, 0] :=
  (by decide +kernel : ∀ t : Fin grid0.N, win0_7.index t = ![0, 0])
theorem index8 : ∀ t : Fin cfg0.N, win0_8.index t = ![0] :=
  (by decide +kernel : ∀ t : Fin grid0.N, win0_8.index t = ![0])
theorem index9 : ∀ t : Fin cfg0.N, win0_9.index t = ![0, 0] :=
  (by decide +kernel : ∀ t : Fin grid0.N, win0_9.index t = ![0, 0])
theorem index10 : ∀ t : Fin cfg0.N, win0_10.index t = ![0] :=
  (by decide +kernel : ∀ t : Fin grid0.N, win0_10.index t = ![0])
theorem index11 : ∀ t : Fin cfg0.N, win0_11.index t = ![0, 0] :=
  (by decide +kernel : ∀ t : Fin grid0.N, win0_11.index t = ![0, 0])
theorem index12 : ∀ t : Fin cfg0.N, win0_12.index t = ![0] :=
  (by decide +kernel : ∀ t : Fin grid0.N, win0_12.index t = ![0])
theorem index13 : ∀ t : Fin cfg0.N, win0_13.index t = ![0, 0] :=
  (by decide +kernel : ∀ t : Fin grid0.N, win0_13.index t = ![0, 0])
theorem index14 : ∀ t : Fin cfg0.N, win0_14.index t = ![0] :=
  (by decide +kernel : ∀ t : Fin grid0.N, win0_14.index t = ![0])
theorem index15 : ∀ t : Fin cfg0.N, win0_15.index t = ![0, 0] :=
  (by decide +kernel : ∀ t : Fin grid0.N, win0_15.index t = ![0, 0])
theorem index16 : ∀ t : Fin cfg0.N, win0_16.index t = ![0] :=
  (by decide +kernel : ∀ t : Fin grid0.N, win0_16.index t = ![0])
theorem index17 : ∀ t : Fin cfg0.N, win0_17.index t = ![0, 0] :=
  (by decide +kernel : ∀ t : Fin grid0.N, win0_17.index t = ![0, 0])
theorem index18 : ∀ t : Fin cfg0.N, win0_18.index t = ![0] :=
  (by decide +kernel : ∀ t : Fin grid0.N, win0_18.index t = ![0])
theorem index19 : ∀ t : Fin cfg0.N, win0_19.index t = ![t.val, 0] :=
  (by decide +kernel : ∀ t : Fin grid0.N, win0_19.index t = ![t.val, 0])
theorem index20 : ∀ t : Fin cfg0.N, win0_20.index t = ![t.val, 0] :=
  (by decide +kernel : ∀ t : Fin grid0.N, win0_20.index t = ![t.val, 0])
theorem index21 : ∀ t : Fin cfg0.N, win0_21.index t = ![t.val, 0] :=
  (by decide +kernel : ∀ t : Fin grid0.N, win0_21.index t = ![t.val, 0])
theorem index22 : ∀ t : Fin cfg0.N, win0_22.index t = ![t.val, 0] :=
  (by decide +kernel : ∀ t : Fin grid0.N, win0_22.index t = ![t.val, 0])
theorem index23 : ∀ t : Fin cfg0.N, win0_23.index t = ![t.val, 0, 0] :=
  (by decide +kernel : ∀ t : Fin grid0.N, win0_23.index t = ![t.val, 0, 0])

theorem emb0 (t : Fin cfg0.N) (r : Fin 128) (l : Fin 128) : ((cfg0.win 0).blk t).view.emb (ix2 r l) = ix2 (row t r) l := by
  funext a
  refine Fin.ext ?_
  fin_cases a <;> blk_simp [index0]
  all_goals rfl

theorem emb1 (t : Fin cfg0.N) (r : Fin 128) (l : Fin 128) : ((cfg0.win 1).blk t).view.emb (ix2 r l) = ix2 (row t r) l := by
  funext a
  refine Fin.ext ?_
  fin_cases a <;> blk_simp [index1]
  all_goals rfl

theorem emb2 (t : Fin cfg0.N) (r : Fin 128) (l : Fin 128) : ((cfg0.win 2).blk t).view.emb (ix2 r l) = ix2 (row t r) l := by
  funext a
  refine Fin.ext ?_
  fin_cases a <;> blk_simp [index2]
  all_goals rfl

theorem emb3 (t : Fin cfg0.N) (r : Fin 128) (l : Fin 1) : ((cfg0.win 3).blk t).view.emb (ix2 r l) = ix2 (row t r) l := by
  funext a
  refine Fin.ext ?_
  fin_cases a <;> blk_simp [index3]
  all_goals rfl

theorem emb4 (t : Fin cfg0.N) (b : Fin 8) (k : Fin 512) : ((cfg0.win 4).blk t).view.emb (ix2 b k) = ix2 (recd t b) k := by
  funext a
  refine Fin.ext ?_
  fin_cases a <;> blk_simp [index4]
  all_goals rfl

theorem emb5 (t : Fin cfg0.N) (b : Fin 8) (k : Fin 512) : ((cfg0.win 5).blk t).view.emb (ix2 b k) = ix2 (recd t b) k := by
  funext a
  refine Fin.ext ?_
  fin_cases a <;> blk_simp [index5]
  all_goals rfl

theorem emb6 (t : Fin cfg0.N) (b : Fin 8) (i : Fin 2048) (k : Fin 128) : ((cfg0.win 6).blk t).view.emb (ix3 b i k) = ix3 (recd t b) i k := by
  funext a
  refine Fin.ext ?_
  fin_cases a <;> blk_simp [index6]
  all_goals rfl

theorem emb7 (t : Fin cfg0.N) (k : Fin 128) (d : Fin 512) : ((cfg0.win 7).blk t).view.emb (ix2 k d) = ix2 k d := by
  funext a
  refine Fin.ext ?_
  fin_cases a <;> blk_simp [index7]
  all_goals rfl

theorem emb8 (t : Fin cfg0.N) (k : Fin 128) : ((cfg0.win 8).blk t).view.emb (ix1 k) = ix1 k := by
  funext a
  refine Fin.ext ?_
  fin_cases a <;> blk_simp [index8]
  all_goals rfl

theorem emb9 (t : Fin cfg0.N) (k : Fin 64) (d : Fin 128) : ((cfg0.win 9).blk t).view.emb (ix2 k d) = ix2 k d := by
  funext a
  refine Fin.ext ?_
  fin_cases a <;> blk_simp [index9]
  all_goals rfl

theorem emb10 (t : Fin cfg0.N) (k : Fin 64) : ((cfg0.win 10).blk t).view.emb (ix1 k) = ix1 k := by
  funext a
  refine Fin.ext ?_
  fin_cases a <;> blk_simp [index10]
  all_goals rfl

theorem emb11 (t : Fin cfg0.N) (k : Fin 64) (d : Fin 128) : ((cfg0.win 11).blk t).view.emb (ix2 k d) = ix2 k d := by
  funext a
  refine Fin.ext ?_
  fin_cases a <;> blk_simp [index11]
  all_goals rfl

theorem emb12 (t : Fin cfg0.N) (k : Fin 64) : ((cfg0.win 12).blk t).view.emb (ix1 k) = ix1 k := by
  funext a
  refine Fin.ext ?_
  fin_cases a <;> blk_simp [index12]
  all_goals rfl

theorem emb13 (t : Fin cfg0.N) (k : Fin 64) (d : Fin 512) : ((cfg0.win 13).blk t).view.emb (ix2 k d) = ix2 k d := by
  funext a
  refine Fin.ext ?_
  fin_cases a <;> blk_simp [index13]
  all_goals rfl

theorem emb14 (t : Fin cfg0.N) (k : Fin 64) : ((cfg0.win 14).blk t).view.emb (ix1 k) = ix1 k := by
  funext a
  refine Fin.ext ?_
  fin_cases a <;> blk_simp [index14]
  all_goals rfl

theorem emb15 (t : Fin cfg0.N) (k : Fin 64) (d : Fin 128) : ((cfg0.win 15).blk t).view.emb (ix2 k d) = ix2 k d := by
  funext a
  refine Fin.ext ?_
  fin_cases a <;> blk_simp [index15]
  all_goals rfl

theorem emb16 (t : Fin cfg0.N) (k : Fin 64) : ((cfg0.win 16).blk t).view.emb (ix1 k) = ix1 k := by
  funext a
  refine Fin.ext ?_
  fin_cases a <;> blk_simp [index16]
  all_goals rfl

theorem emb17 (t : Fin cfg0.N) (k : Fin 512) (d : Fin 128) : ((cfg0.win 17).blk t).view.emb (ix2 k d) = ix2 k d := by
  funext a
  refine Fin.ext ?_
  fin_cases a <;> blk_simp [index17]
  all_goals rfl

theorem emb18 (t : Fin cfg0.N) (k : Fin 512) : ((cfg0.win 18).blk t).view.emb (ix1 k) = ix1 k := by
  funext a
  refine Fin.ext ?_
  fin_cases a <;> blk_simp [index18]
  all_goals rfl

theorem emb19 (t : Fin cfg0.N) (b : Fin 8) (k : Fin 2048) : ((cfg0.win 19).blk t).view.emb (ix2 b k) = ix2 (recd t b) k := by
  funext a
  refine Fin.ext ?_
  fin_cases a <;> blk_simp [index19]
  all_goals rfl

theorem emb20 (t : Fin cfg0.N) (b : Fin 8) (k : Fin 2048) : ((cfg0.win 20).blk t).view.emb (ix2 b k) = ix2 (recd t b) k := by
  funext a
  refine Fin.ext ?_
  fin_cases a <;> blk_simp [index20]
  all_goals rfl

theorem emb21 (t : Fin cfg0.N) (b : Fin 8) (k : Fin 2048) : ((cfg0.win 21).blk t).view.emb (ix2 b k) = ix2 (recd t b) k := by
  funext a
  refine Fin.ext ?_
  fin_cases a <;> blk_simp [index21]
  all_goals rfl

theorem emb22 (t : Fin cfg0.N) (b : Fin 8) (k : Fin 512) : ((cfg0.win 22).blk t).view.emb (ix2 b k) = ix2 (recd t b) k := by
  funext a
  refine Fin.ext ?_
  fin_cases a <;> blk_simp [index22]
  all_goals rfl

theorem emb23 (t : Fin cfg0.N) (b : Fin 8) (i : Fin 2048) (k : Fin 128) : ((cfg0.win 23).blk t).view.emb (ix3 b i k) = ix3 (recd t b) i k := by
  funext a
  refine Fin.ext ?_
  fin_cases a <;> blk_simp [index23]
  all_goals rfl

theorem at0 (t : Fin cfg0.N) (b : Fin 8) (i : Fin 2048) : iblk m c 0 t (ix2 ⟨16 * b + i / 128, by omega⟩ ⟨i % 128, by omega⟩) =
    (data m c).st 0 (recd t b) i := by
  blk_simp [iblk]
  refine (congrArg _ (emb0 t _ _)).trans ((state0 m c _ _).trans ?_)
  refine congrArg₂ ((data m c).st 0) (Fin.ext ?_) (Fin.ext ?_)
  · show (t.val * 128 + (16 * b.val + i.val / 128)) / 16 = t.val * 8 + b.val
    omega
  · show (t.val * 128 + (16 * b.val + i.val / 128)) % 16 * 128 + i.val % 128 = i.val
    omega

theorem at1 (t : Fin cfg0.N) (b : Fin 8) (i : Fin 2048) : iblk m c 1 t (ix2 ⟨16 * b + i / 128, by omega⟩ ⟨i % 128, by omega⟩) =
    (data m c).st 1 (recd t b) i := by
  blk_simp [iblk]
  refine (congrArg _ (emb1 t _ _)).trans ((state1 m c _ _).trans ?_)
  refine congrArg₂ ((data m c).st 1) (Fin.ext ?_) (Fin.ext ?_)
  · show (t.val * 128 + (16 * b.val + i.val / 128)) / 16 = t.val * 8 + b.val
    omega
  · show (t.val * 128 + (16 * b.val + i.val / 128)) % 16 * 128 + i.val % 128 = i.val
    omega

theorem at2 (t : Fin cfg0.N) (b : Fin 8) (i : Fin 2048) : iblk m c 2 t (ix2 ⟨16 * b + i / 128, by omega⟩ ⟨i % 128, by omega⟩) =
    (data m c).st 2 (recd t b) i := by
  blk_simp [iblk]
  refine (congrArg _ (emb2 t _ _)).trans ((state2 m c _ _).trans ?_)
  refine congrArg₂ ((data m c).st 2) (Fin.ext ?_) (Fin.ext ?_)
  · show (t.val * 128 + (16 * b.val + i.val / 128)) / 16 = t.val * 8 + b.val
    omega
  · show (t.val * 128 + (16 * b.val + i.val / 128)) % 16 * 128 + i.val % 128 = i.val
    omega

theorem at3 (t : Fin cfg0.N) (b : Fin 8) (i : Fin 2048) : iblk m c 3 t (ix2 ⟨16 * b + i / 128, by omega⟩ 0) =
    (data m c).fg (recd t b) := by
  blk_simp [iblk]
  refine (congrArg _ (emb3 t _ _)).trans ((gates m c _).trans ?_)
  refine congrArg (data m c).fg (Fin.ext ?_)
  show (t.val * 128 + (16 * b.val + i.val / 128)) / 16 = t.val * 8 + b.val
  omega

theorem at4 (t : Fin cfg0.N) (b : Fin 8) (k : Fin 512) : iblk m c 4 t (ix2 b k) = (data m c).inp (recd t b) k := by
  blk_simp [iblk]
  exact (congrArg _ (emb4 t b k)).trans (inputs m c _ _)

theorem at5 (t : Fin cfg0.N) (b : Fin 8) (k : Fin 512) : iblk m c 5 t (ix2 b k) = (data m c).qry (recd t b) k := by
  blk_simp [iblk]
  exact (congrArg _ (emb5 t b k)).trans (queries m c _ _)

theorem at6 (t : Fin cfg0.N) (b : Fin 8) (i : Fin 2048) (k : Fin 128) : iblk m c 6 t (ix3 b i k) = (data m c).mem (recd t b) i k := by
  blk_simp [iblk]
  exact (congrArg _ (emb6 t b i k)).trans (congrFun (V_main_arg4 m c) _)

theorem at7 (t : Fin cfg0.N) (k : Fin 128) (d : Fin 512) : iblk m c 7 t (ix2 k d) = (data m c).Iw k d := by
  blk_simp [iblk]
  exact (congrArg _ (emb7 t k d)).trans (congrFun (V_main_arg5 m c) _)

theorem at8 (t : Fin cfg0.N) (k : Fin 128) : iblk m c 8 t (ix1 k) = (data m c).Ib k := by
  blk_simp [iblk]
  exact (congrArg _ (emb8 t k)).trans (congrFun (V_main_arg6 m c) _)

theorem at9 (t : Fin cfg0.N) (k : Fin 64) (d : Fin 128) : iblk m c 9 t (ix2 k d) = (data m c).W1 k d := by
  blk_simp [iblk]
  exact (congrArg _ (emb9 t k d)).trans (congrFun (V_main_arg7 m c) _)

theorem at10 (t : Fin cfg0.N) (k : Fin 64) : iblk m c 10 t (ix1 k) = (data m c).b1 k := by
  blk_simp [iblk]
  exact (congrArg _ (emb10 t k)).trans (congrFun (V_main_arg8 m c) _)

theorem at11 (t : Fin cfg0.N) (k : Fin 64) (d : Fin 128) : iblk m c 11 t (ix2 k d) = (data m c).W2 k d := by
  blk_simp [iblk]
  exact (congrArg _ (emb11 t k d)).trans (congrFun (V_main_arg9 m c) _)

theorem at12 (t : Fin cfg0.N) (k : Fin 64) : iblk m c 12 t (ix1 k) = (data m c).b2 k := by
  blk_simp [iblk]
  exact (congrArg _ (emb12 t k)).trans (congrFun (V_main_arg10 m c) _)

theorem at13 (t : Fin cfg0.N) (k : Fin 64) (d : Fin 512) : iblk m c 13 t (ix2 k d) = (data m c).R1 k d := by
  blk_simp [iblk]
  exact (congrArg _ (emb13 t k d)).trans (congrFun (V_main_arg11 m c) _)

theorem at14 (t : Fin cfg0.N) (k : Fin 64) : iblk m c 14 t (ix1 k) = (data m c).c1 k := by
  blk_simp [iblk]
  exact (congrArg _ (emb14 t k)).trans (congrFun (V_main_arg12 m c) _)

theorem at15 (t : Fin cfg0.N) (k : Fin 64) (d : Fin 128) : iblk m c 15 t (ix2 k d) = (data m c).R2 k d := by
  blk_simp [iblk]
  exact (congrArg _ (emb15 t k d)).trans (congrFun (V_main_arg13 m c) _)

theorem at16 (t : Fin cfg0.N) (k : Fin 64) : iblk m c 16 t (ix1 k) = (data m c).c2 k := by
  blk_simp [iblk]
  exact (congrArg _ (emb16 t k)).trans (congrFun (V_main_arg14 m c) _)

theorem at17 (t : Fin cfg0.N) (k : Fin 512) (d : Fin 128) : iblk m c 17 t (ix2 k d) = (data m c).Ow k d := by
  blk_simp [iblk]
  exact (congrArg _ (emb17 t k d)).trans (congrFun (V_main_arg15 m c) _)

theorem at18 (t : Fin cfg0.N) (k : Fin 512) : iblk m c 18 t (ix1 k) = (data m c).Ob k := by
  blk_simp [iblk]
  exact (congrArg _ (emb18 t k)).trans (congrFun (V_main_arg16 m c) _)

section Point
variable (t : Fin cfg0.N) (b : Fin 8)

theorem e_at (k : Fin 128) : Block.emb (iblk m c 4 t) (iblk m c 7 t) (iblk m c 8 t) (ix2 b k) = (data m c).e (recd t b) k := by
  rw [Block.emb_at]
  simp only [at4, at7, at8]
  rfl

theorem wi_at (h : Fin 64) : k0_pay4 (iblk m c 4 t) (iblk m c 7 t) (iblk m c 8 t) (iblk m c 9 t) (iblk m c 10 t) (ix2 b h) = (data m c).wi (recd t b) h := by
  rw [Block.wkey_at]
  simp only [e_at, at9, at10]
  rfl

theorem rq_at (h : Fin 64) : Block.rkey (iblk m c 5 t) (iblk m c 13 t) (iblk m c 14 t) (ix2 b h) = (data m c).rq (recd t b) h := by
  rw [Block.rkey_at]
  simp only [at5, at13, at14]
  rfl

theorem u_at (i : Fin 2048) : recs (Block.use (iblk m c 0 t) (iblk m c 1 t) (iblk m c 2 t) (iblk m c 3 t)) (ix2 b i) = (data m c).u (recd t b) i := by
  rw [Block.recs_at, Block.use_at]
  rw [at0, at1, at2, at3]
  rfl

theorem s_at (i : Fin 2048) : Block.scores (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 b i) =
    (data m c).s' (recd t b) i := by
  rw [Block.scores_at]
  simp only [wi_at, at11, at12, at6]
  rfl

theorem w_at (i : Fin 2048) : Block.weights (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (ix2 b i) = (data m c).w' (recd t b) i := by
  rw [Block.weights_at]
  simp only [s_at, u_at]
  rfl

theorem t_at (i : Fin 2048) : Block.scores2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (ix2 b i) = (data m c).t' (recd t b) i := by
  rw [Block.scores2_at]
  simp only [rq_at, w_at, e_at, at15, at16, at6]
  rfl

theorem wr_at (i : Fin 2048) : soft (Block.scores2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t))
    (ix2 b i) = (data m c).wr' (recd t b) i := by
  rw [soft_at]
  simp only [t_at]
  rfl

theorem rm_at (i : Fin 2048) (k : Fin 128) : Block.memory (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (ix3 b i k) = (data m c).rm' (recd t b) i k := by
  rw [Block.memory_at]
  simp only [at6, w_at, e_at]
  rfl

theorem y_at (o : Fin 512) : Block.output (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    (ix2 b o) = (data m c).y' (recd t b) o := by
  rw [Block.output_at]
  simp only [t_at, rm_at, at17, at18]
  rfl

end Point

end Cert.Arrays

end
-- ==== Proof.Results.lean ====
/- The kernel's five result arrays. -/
module

public import proofs.«01_k».proof.Proof.Arrays
public import proofs.«01_k».proof.Proof.Gen.KernelIdeal.Value
public import Idealize.ShloMosaic.Lib.Pipeline.ValueKit
public import Idealize.ShloMosaic.Lib.StableHlo.RunRead

@[expose] public section

set_option maxRecDepth 20000

noncomputable section

namespace Cert.Arrays

open Cert.KernelIdeal Cert.KernelIdeal.Gen Idealize.ShloMosaic Idealize.ShloMosaic.TcCoe Cert.Sort Cert.Lanes Cert.Model
open Idealize.ShloMosaic.StableHlo
open Idealize.ShloMosaic.Pipeline (Dat)

variable (m : (ℓ : Loc nD τ sig) → Buf (Elt Ideal) ℓ) (c : Dev nD)

theorem outs19 (t : Fin cfg0.N) : (outsAt0 m c t).1 = soft (Block.scores2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  unfold outsAt0
  dsimp only
  rw [Block.out_read]

theorem array19 : (dats m 0 c).arrAt 19 cfg0.N = fun j : S128x2048.Idx => (data m c).wr' (j 0) (j 1) := by
  refine (dats m 0 c).arrAt_eq_of_covers 19 _ (by decide +kernel) fun t hf y => ?_
  obtain ⟨b, i, rfl⟩ : ∃ (b : Fin 8) (i : Fin 2048), y = (ix2 b i : S8x2048.Idx) := ⟨y 0, y 1, (ix2_eta (y : S8x2048.Idx)).symm⟩
  have h := wr_at m c t b i
  rw [← outs19] at h
  blk_simp
  rw [after0_19, show ((win0_19).blk t).view.emb (ix2 b i) = ix2 (recd t b) i from emb19 t b i]
  exact h

theorem outs20 (t : Fin cfg0.N) : (outsAt0 m c t).2.1 = Block.weights (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  unfold outsAt0
  dsimp only
  rw [Block.out_weights]

theorem array20 : (dats m 0 c).arrAt 20 cfg0.N = fun j : S128x2048.Idx => (data m c).w' (j 0) (j 1) := by
  refine (dats m 0 c).arrAt_eq_of_covers 20 _ (by decide +kernel) fun t hf y => ?_
  obtain ⟨b, i, rfl⟩ : ∃ (b : Fin 8) (i : Fin 2048), y = (ix2 b i : S8x2048.Idx) := ⟨y 0, y 1, (ix2_eta (y : S8x2048.Idx)).symm⟩
  have h := w_at m c t b i
  rw [← outs20] at h
  blk_simp
  rw [after0_20, show ((win0_20).blk t).view.emb (ix2 b i) = ix2 (recd t b) i from emb20 t b i]
  exact h

theorem outs21 (t : Fin cfg0.N) : (outsAt0 m c t).2.2.1 = recs (Block.use (iblk m c 0 t) (iblk m c 1 t) (iblk m c 2 t) (iblk m c 3 t)) := by
  unfold outsAt0
  dsimp only
  rw [Block.out_use]

theorem array21 : (dats m 0 c).arrAt 21 cfg0.N = fun j : S128x2048.Idx => (data m c).u (j 0) (j 1) := by
  refine (dats m 0 c).arrAt_eq_of_covers 21 _ (by decide +kernel) fun t hf y => ?_
  obtain ⟨b, i, rfl⟩ : ∃ (b : Fin 8) (i : Fin 2048), y = (ix2 b i : S8x2048.Idx) := ⟨y 0, y 1, (ix2_eta (y : S8x2048.Idx)).symm⟩
  have h := u_at m c t b i
  rw [← outs21] at h
  blk_simp
  rw [after0_21, show ((win0_21).blk t).view.emb (ix2 b i) = ix2 (recd t b) i from emb21 t b i]
  exact h

theorem outs22 (t : Fin cfg0.N) : (outsAt0 m c t).2.2.2.1 = Block.output (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by
  unfold outsAt0
  dsimp only
  rw [Block.out_output]

theorem array22 : (dats m 0 c).arrAt 22 cfg0.N = fun j : S128x512.Idx => (data m c).y' (j 0) (j 1) := by
  refine (dats m 0 c).arrAt_eq_of_covers 22 _ (by decide +kernel) fun t hf y => ?_
  obtain ⟨b, i, rfl⟩ : ∃ (b : Fin 8) (i : Fin 512), y = (ix2 b i : S8x512.Idx) := ⟨y 0, y 1, (ix2_eta (y : S8x512.Idx)).symm⟩
  have h := y_at m c t b i
  rw [← outs22] at h
  blk_simp
  rw [after0_22, show ((win0_22).blk t).view.emb (ix2 b i) = ix2 (recd t b) i from emb22 t b i]
  exact h

theorem outs23 (t : Fin cfg0.N) : (outsAt0 m c t).2.2.2.2 = Block.memory (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  unfold outsAt0
  dsimp only
  rw [Block.out_memory]

theorem array23 : (dats m 0 c).arrAt 23 cfg0.N = fun j : S128x2048x128.Idx => (data m c).rm' (j 0) (j 1) (j 2) := by
  refine (dats m 0 c).arrAt_eq_of_covers 23 _ (by decide +kernel) fun t hf y => ?_
  obtain ⟨b, i, k, rfl⟩ : ∃ (b : Fin 8) (i : Fin 2048) (k : Fin 128), y = (ix3 b i k : S8x2048x128.Idx) :=
    ⟨y 0, y 1, y 2, (ix3_eta (y : S8x2048x128.Idx)).symm⟩
  have h := rm_at m c t b i k
  rw [← outs23] at h
  blk_simp
  rw [after0_23, show ((win0_23).blk t).view.emb (ix3 b i k) = ix3 (recd t b) i k from emb23 t b i k]
  exact h

end Cert.Arrays

end
-- ==== Proof.Finite.lean ====
/- What the precondition says: every argument but the output layer's is finite. -/
module

public import proofs.«01_k».proof.Proof.Arrays
public import proofs.«01_k».proof.Proof.Gen.Pre_finite
public import proofs.«01_k».proof.Defs
public import Idealize.ShloMosaic.Lib.ReduceAll

@[expose] public section

noncomputable section

namespace Cert.Pre_finite

open Idealize.ShloMosaic Cert.Model

attribute [local instance] Cert.Pre_finite.Gen.facts

instance : Subsingleton S_.Idx := ⟨fun _ _ => funext fun a => a.elim0⟩

theorem both {x y : IVec S_ 1} (h : andi x y = fun _ => 1#1) : (x = fun _ => 1#1) ∧ y = fun _ => 1#1 := by
  have k := fun i => (IntOp.andi_eq_one (c := x i) (d := y i)).mp (congrFun h i)
  exact ⟨funext fun i => (k i).1, funext fun i => (k i).2⟩

/-- An array every entry of which lies below infinity in magnitude has finite entries. -/
theorem entries {s : Shape} {axes : List (Fin s.rank)} {d : Fin 0 → Fin s.rank} (x : FVec Ideal s .f32) (hb : S_.BroadcastsInDim s d)
    (hr : s.ReducesTo axes S_) (hu : 0 < S_.numel)
    (h : Host.reduce IntOp.andi (cmpf .olt (Host.absf x) (broadcastInDim s d hb (constant S_ .f32 0x7F800000#32))) (constantI S_ 1 1#1) hr hu
      = fun _ => 1#1) (i : s.Idx) : Fin' (x i) := by
  have e := Host.reduce_andi_all _ _ hr hu (Shape.Idx.first hu) (congrFun h _) i
  have hi : Ideal.ofBits .f32 0x7F800000#32 = ⊤ := by simp [Ideal.ofBits, Ideal.ieee]
  have e' : Ideal.cmp .olt (max (x i) (-(x i))) (Ideal.ofBits .f32 0x7F800000#32) = 1#1 := e
  rw [hi] at e'
  unfold Ideal.cmp at e'
  have lt : max (x i) (-(x i)) < ⊤ := by
    by_contra hn
    simp [hn] at e'
  generalize (x i : EReal) = z at lt ⊢
  induction z using EReal.rec with
  | bot => simp at lt
  | top => simp at lt
  | coe r => exact ⟨r, rfl⟩

end Cert.Pre_finite

namespace Cert.Arrays

open Idealize.ShloMosaic Idealize.ShloMosaic.TcCoe Cert.Model Cert.KernelIdeal

attribute [local instance] Cert.Pre_finite.Gen.facts

theorem finite (m : (ℓ : Loc nD τ sig) → Buf (Elt Ideal) ℓ) (h : Cert.Pre_KernelIdeal_finite m) (c : Dev nD) : (data m c).Finite := by
  have h := h c
  unfold Pre_finite.fn Pre_finite.fn_part1 Pre_finite.fn_part2 Pre_finite.fn_part3 Pre_finite.fn_part4 at h
  dsimp only at h
  obtain ⟨h, h14⟩ := Pre_finite.both h
  obtain ⟨h, h13⟩ := Pre_finite.both h
  obtain ⟨h, h12⟩ := Pre_finite.both h
  obtain ⟨h, h11⟩ := Pre_finite.both h
  obtain ⟨h, h10⟩ := Pre_finite.both h
  obtain ⟨h, h9⟩ := Pre_finite.both h
  obtain ⟨h, h8⟩ := Pre_finite.both h
  obtain ⟨h, h7⟩ := Pre_finite.both h
  obtain ⟨h, h6⟩ := Pre_finite.both h
  obtain ⟨h, h5⟩ := Pre_finite.both h
  obtain ⟨h, h4⟩ := Pre_finite.both h
  obtain ⟨h, h3⟩ := Pre_finite.both h
  obtain ⟨h, h2⟩ := Pre_finite.both h
  obtain ⟨h0, h1⟩ := Pre_finite.both h
  exact
    { st := fun k b i => Pre_finite.entries _ _ _ _ h0 _
      fg := fun b => Pre_finite.entries _ _ _ _ h1 _
      inp := fun b k => Pre_finite.entries _ _ _ _ h2 _
      qry := fun b k => Pre_finite.entries _ _ _ _ h3 _
      mem := fun b i k => Pre_finite.entries _ _ _ _ h4 _
      Iw := fun k d => Pre_finite.entries _ _ _ _ h5 _
      Ib := fun k => Pre_finite.entries _ _ _ _ h6 _
      W1 := fun k d => Pre_finite.entries _ _ _ _ h7 _
      b1 := fun k => Pre_finite.entries _ _ _ _ h8 _
      W2 := fun k d => Pre_finite.entries _ _ _ _ h9 _
      b2 := fun k => Pre_finite.entries _ _ _ _ h10 _
      R1 := fun k d => Pre_finite.entries _ _ _ _ h11 _
      c1 := fun k => Pre_finite.entries _ _ _ _ h12 _
      R2 := fun k d => Pre_finite.entries _ _ _ _ h13 _
      c2 := fun k => Pre_finite.entries _ _ _ _ h14 _ }

end Cert.Arrays

end
-- ==== Proof.lean ====
module

public import proofs.«01_k».proof.Proof.RefRun
public import proofs.«01_k».proof.Proof.RefResults
public import proofs.«01_k».proof.Proof.Results
public import proofs.«01_k».proof.Proof.Finite
public import proofs.«01_k».proof.Proof.Gen.KernelIdeal.Value
public import proofs.«01_k».proof.Proof.Gen.Pre_finite
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Equal arguments are equal data. -/
theorem same_data (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
      m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧
      m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧
      m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧
      m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧
      m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧
      m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.Ref.data m' c = Cert.Arrays.data m c := by
  obtain ⟨h0, h1, h2, h3, h4, h5, h6, h7, h8, h9, h10, h11, h12, h13, h14, h15, h16⟩ := h
  unfold Cert.Ref.data Cert.Arrays.data
  congr 1
  · exact funext fun k => funext fun b => funext fun i => congrFun h0 _
  · exact funext fun b => congrFun h1 _
  · exact funext fun b => funext fun k => congrFun h2 _
  · exact funext fun b => funext fun k => congrFun h3 _
  · exact funext fun b => funext fun i => funext fun k => congrFun h4 _
  · exact funext fun k => funext fun d => congrFun h5 _
  · exact funext fun k => congrFun h6 _
  · exact funext fun k => funext fun d => congrFun h7 _
  · exact funext fun k => congrFun h8 _
  · exact funext fun k => funext fun d => congrFun h9 _
  · exact funext fun k => congrFun h10 _
  · exact funext fun k => funext fun d => congrFun h11 _
  · exact funext fun k => congrFun h12 _
  · exact funext fun k => funext fun d => congrFun h13 _
  · exact funext fun k => congrFun h14 _
  · exact funext fun k => funext fun d => congrFun h15 _
  · exact funext fun k => congrFun h16 _

/-- The two idealized programs compute the same five results. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp he
  refine ⟨_, _, _, _, _, Cert.KernelIdeal.Value.run_blocks m g,
    (θ_run _ _ _).mono (fun r h c => ?_) (Cert.ReferenceIdeal.Gen.run_reads m' g')⟩
  have hd := same_data m m' c (he c)
  have hf := Cert.Arrays.finite m hp c
  have hr := (h.1 c).1
  have ha := (h.1 c).2
  simp only [List.forall_mem_cons] at ha
  obtain ⟨h0, h1, h2, h3, h4, h5, h6, h7, h8, h9, h10, h11, h12, h13, h14, h15, h16, -⟩ := ha
  refine ⟨?_, ?_, ?_, ?_, ?_, h0, h1, h2, h3, h4, h5, h6, h7, h8, h9, h10, h11, h12, h13, h14, h15, h16⟩
  · refine (hr _ rfl).trans ((Cert.Ref.result0 m' c).trans (Eq.trans ?_ (Cert.Arrays.array19 m c).symm))
    have k (b) : (Cert.Ref.data m' c).wr b = (Cert.Arrays.data m c).wr' b := by rw [hd, Cert.Model.Data.wr_eq _ hf]
    exact funext fun j => congrFun (k (j 0)) (j 1)
  · refine (hr _ rfl).trans ((Cert.Ref.result1 m' c).trans (Eq.trans ?_ (Cert.Arrays.array20 m c).symm))
    have k (b) : (Cert.Ref.data m' c).w b = (Cert.Arrays.data m c).w' b := by rw [hd, Cert.Model.Data.w_eq _ hf]
    exact funext fun j => congrFun (k (j 0)) (j 1)
  · refine (hr _ rfl).trans ((Cert.Ref.result2 m' c).trans (Eq.trans ?_ (Cert.Arrays.array21 m c).symm))
    have k (b) : (Cert.Ref.data m' c).u b = (Cert.Arrays.data m c).u b := by rw [hd]
    exact funext fun j => congrFun (k (j 0)) (j 1)
  · refine (hr _ rfl).trans ((Cert.Ref.result3 m' c).trans (Eq.trans ?_ (Cert.Arrays.array22 m c).symm))
    have k (b) : (Cert.Ref.data m' c).y b = (Cert.Arrays.data m c).y' b := by rw [hd, Cert.Model.Data.y_eq _ hf]
    exact funext fun j => congrFun (k (j 0)) (j 1)
  · refine (hr _ rfl).trans ((Cert.Ref.result4 m' c).trans (Eq.trans ?_ (Cert.Arrays.array23 m c).symm))
    have k (b) : (Cert.Ref.data m' c).rm b = (Cert.Arrays.data m c).rm' b := by rw [hd, Cert.Model.Data.rm_eq _ hf]
    exact funext fun j => congrFun (congrFun (k (j 0)) (j 1)) (j 2)

/-- The reference runs and leaves its arguments alone. -/
theorem quiet : quiescent_ReferenceIdeal (hReferenceIdeal := Cert.ReferenceIdeal.Gen.facts) :=
  fun m ρ _ => (θ_run _ _ _).mono (fun r h => ⟨fun c => by
    have h := (h.1 c).2
    simp only [List.forall_mem_cons] at h
    obtain ⟨h0, h1, h2, h3, h4, h5, h6, h7, h8, h9, h10, h11, h12, h13, h14, h15, h16, -⟩ := h
    exact ⟨h0, h1, h2, h3, h4, h5, h6, h7, h8, h9, h10, h11, h12, h13, h14, h15, h16⟩, h.2⟩)
    (Cert.ReferenceIdeal.Gen.run_reads m ρ)

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  quiet, fun m ρ _ => quiet m ρ trivial, trivial, algebraic⟩

end Cert.Proof

end
